-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x512x512 : Shape := ⟨4, ![64, 3, 512, 512]⟩
abbrev S32x3x16x16 : Shape := ⟨4, ![32, 3, 16, 16]⟩
abbrev S32 : Shape := ⟨1, ![32]⟩
abbrev S1x32x1x1 : Shape := ⟨4, ![1, 32, 1, 1]⟩
abbrev S1 : Shape := ⟨1, ![1]⟩
abbrev S32x768 : Shape := ⟨2, ![32, 768]⟩
abbrev S32x1 : Shape := ⟨2, ![32, 1]⟩
abbrev S32x65536 : Shape := ⟨2, ![32, 65536]⟩
abbrev S1x3x512x512 : Shape := ⟨4, ![1, 3, 512, 512]⟩
abbrev S32x1024 : Shape := ⟨2, ![32, 1024]⟩
abbrev S3x512x512 : Shape := ⟨3, ![3, 512, 512]⟩
abbrev S3x32x16x32x16 : Shape := ⟨5, ![3, 32, 16, 32, 16]⟩
abbrev S3x16x16x32x32 : Shape := ⟨5, ![3, 16, 16, 32, 32]⟩
abbrev S768x1024 : Shape := ⟨2, ![768, 1024]⟩
abbrev S1x32 : Shape := ⟨2, ![1, 32]⟩
abbrev S1x1 : Shape := ⟨2, ![1, 1]⟩
abbrev S1x65536 : Shape := ⟨2, ![1, 65536]⟩
abbrev S64x1024 : Shape := ⟨2, ![64, 1024]⟩
abbrev S1024x1024 : Shape := ⟨2, ![1024, 1024]⟩
abbrev S1x1024 : Shape := ⟨2, ![1, 1024]⟩
abbrev S1024x1 : Shape := ⟨2, ![1024, 1]⟩
abbrev S1024 : Shape := ⟨1, ![1024]⟩
abbrev S64x819 : Shape := ⟨2, ![64, 819]⟩

abbrev nBuf : Space → Nat
  | .hbm => 18
  | .vmem => 14
  | .smem => 0
  | _ => 0

abbrev bufTy : (tb : Table) → Fin (tcTables nBuf tb) → BufTy
  | .hbm, ⟨0, _⟩ => ⟨S64x3x512x512, .f32⟩
  | .hbm, ⟨1, _⟩ => ⟨S32x3x16x16, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S1x32x1x1, .f32⟩
  | .hbm, ⟨6, _⟩ => ⟨S1, .f32⟩
  | .hbm, ⟨7, _⟩ => ⟨S32x768, .f32⟩
  | .hbm, ⟨8, _⟩ => ⟨S32x1, .f32⟩
  | .hbm, ⟨9, _⟩ => ⟨S32x65536, .f32⟩
  | .hbm, ⟨10, _⟩ => ⟨S32x1, .f32⟩
  | .hbm, ⟨11, _⟩ => ⟨S32x1, .f32⟩
  | .hbm, ⟨12, _⟩ => ⟨S1x32, .f32⟩
  | .hbm, ⟨13, _⟩ => ⟨S1x1, .f32⟩
  | .hbm, ⟨14, _⟩ => ⟨S1x65536, .f32⟩
  | .hbm, ⟨15, _⟩ => ⟨S64x1024, .f32⟩
  | .hbm, ⟨16, _⟩ => ⟨S64x1024, .i32⟩
  | .hbm, ⟨17, _⟩ => ⟨S64x819, .i32⟩
  | .local _ .vmem, ⟨0, _⟩ => ⟨S1x3x512x512, .f32⟩
  | .local _ .vmem, ⟨1, _⟩ => ⟨S1x3x512x512, .f32⟩
  | .local _ .vmem, ⟨2, _⟩ => ⟨S32x768, .f32⟩
  | .local _ .vmem, ⟨3, _⟩ => ⟨S32x1, .f32⟩
  | .local _ .vmem, ⟨4, _⟩ => ⟨S32x1024, .f32⟩
  | .local _ .vmem, ⟨5, _⟩ => ⟨S32x1024, .f32⟩
  | .local _ .vmem, ⟨6, _⟩ => ⟨S32x65536, .f32⟩
  | .local _ .vmem, ⟨7, _⟩ => ⟨S32x1, .f32⟩
  | .local _ .vmem, ⟨8, _⟩ => ⟨S32x1, .f32⟩
  | .local _ .vmem, ⟨9, _⟩ => ⟨S1x32, .f32⟩
  | .local _ .vmem, ⟨10, _⟩ => ⟨S1x1, .f32⟩
  | .local _ .vmem, ⟨11, _⟩ => ⟨S1x65536, .f32⟩
  | .local _ .vmem, ⟨12, _⟩ => ⟨S64x1024, .f32⟩
  | .local _ .vmem, ⟨13, _⟩ => ⟨S64x1024, .i32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc2_stg0_0 : Ref sig .tc := ⟨.vmem, 12, rfl⟩
abbrev cc2_stg1_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem1_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x65536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x65536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![1], ![false]⟩

@[reducible] def k2_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k2_off1 (k2_t1 : Fin k2_t1_loop.trips) : Fin 2 → Nat :=
  let c0_i32 : BitVec 32 := 0#32
  let c1_i32 : BitVec 32 := 1#32
  let arg3 : BitVec 32 := Scf.iv c0_i32 c1_i32 k2_t1
  let v4 : Index := Scalar.indexCast arg3
  let c0 : Index := 0#32
  ![v4.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x1024 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]
-- ==== ReferenceIdeal.lean ====
abbrev S64x3x512x512 : Shape := ⟨4, ![64, 3, 512, 512]⟩
abbrev S32x3x16x16 : Shape := ⟨4, ![32, 3, 16, 16]⟩
abbrev S32 : Shape := ⟨1, ![32]⟩
abbrev S1x32x1x1 : Shape := ⟨4, ![1, 32, 1, 1]⟩
abbrev S1 : Shape := ⟨1, ![1]⟩
abbrev S64x3x32x16x32x16 : Shape := ⟨6, ![64, 3, 32, 16, 32, 16]⟩
abbrev S32x64x32x32 : Shape := ⟨4, ![32, 64, 32, 32]⟩
abbrev S64x32x32x32 : Shape := ⟨4, ![64, 32, 32, 32]⟩
abbrev S_ : Shape := ⟨0, ![]⟩
abbrev S1x32 : Shape := ⟨2, ![1, 32]⟩
abbrev S1x64x32x32 : Shape := ⟨4, ![1, 64, 32, 32]⟩
abbrev S64x1x32x32 : Shape := ⟨4, ![64, 1, 32, 32]⟩
abbrev S1x1x1x1 : Shape := ⟨4, ![1, 1, 1, 1]⟩
abbrev S64x1x1024 : Shape := ⟨3, ![64, 1, 1024]⟩
abbrev S64x1x819 : Shape := ⟨3, ![64, 1, 819]⟩
abbrev S64x819 : Shape := ⟨2, ![64, 819]⟩

abbrev nBuf : Space → Nat
  | .hbm => 70
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S32x3x16x16, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S1x32x1x1, .f32⟩
  | .hbm, ⟨6, _⟩ => ⟨S1, .f32⟩
  | .hbm, ⟨7, _⟩ => ⟨S64x3x32x16x32x16, .f32⟩
  | .hbm, ⟨8, _⟩ => ⟨S32x64x32x32, .f32⟩
  | .hbm, ⟨9, _⟩ => ⟨S64x32x32x32, .f32⟩
  | .hbm, ⟨10, _⟩ => ⟨S1x32x1x1, .f32⟩
  | .hbm, ⟨11, _⟩ => ⟨S64x32x32x32, .f32⟩
  | .hbm, ⟨12, _⟩ => ⟨S64x32x32x32, .f32⟩
  | .hbm, ⟨13, _⟩ => ⟨S_, .f32⟩
  | .hbm, ⟨14, _⟩ => ⟨S32, .f32⟩
  | .hbm, ⟨15, _⟩ => ⟨S1x32x1x1, .f32⟩
  | .hbm, ⟨16, _⟩ => ⟨S_, .f32⟩
  | .hbm, ⟨17, _⟩ => ⟨S1x32x1x1, .f32⟩
  | .hbm, ⟨18, _⟩ => ⟨S1x32x1x1, .f32⟩
  | .hbm, ⟨19, _⟩ => ⟨S_, .i32⟩
  | .hbm, ⟨20, _⟩ => ⟨S_, .f32⟩
  | .hbm, ⟨21, _⟩ => ⟨S32, .f32⟩
  | .hbm, ⟨22, _⟩ => ⟨S1x32x1x1, .f32⟩
  | .hbm, ⟨23, _⟩ => ⟨S_, .f32⟩
  | .hbm, ⟨24, _⟩ => ⟨S1x32x1x1, .f32⟩
  | .hbm, ⟨25, _⟩ => ⟨S1x32x1x1, .f32⟩
  | .hbm, ⟨26, _⟩ => ⟨S64x32x32x32, .f32⟩
  | .hbm, ⟨27, _⟩ => ⟨S64x32x32x32, .f32⟩
  | .hbm, ⟨28, _⟩ => ⟨S64x32x32x32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32, .f32⟩
  | .hbm, ⟨34, _⟩ => ⟨S1x32x1x1, .f32⟩
  | .hbm, ⟨35, _⟩ => ⟨S1x32x1x1, .f32⟩
  | .hbm, ⟨36, _⟩ => ⟨S1x32x1x1, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S1x32x1x1, .f32⟩
  | .hbm, ⟨42, _⟩ => ⟨S1x32x1x1, .f32⟩
  | .hbm, ⟨43, _⟩ => ⟨S64x32x32x32, .f32⟩
  | .hbm, ⟨44, _⟩ => ⟨S64x32x32x32, .f32⟩
  | .hbm, ⟨45, _⟩ => ⟨S_, .f32⟩
  | .hbm, ⟨46, _⟩ => ⟨S1x32x1x1, .f32⟩
  | .hbm, ⟨47, _⟩ => ⟨S1x32x1x1, .f32⟩
  | .hbm, ⟨48, _⟩ => ⟨S1x32x1x1, .f32⟩
  | .hbm, ⟨49, _⟩ => ⟨S64x32x32x32, .f32⟩
  | .hbm, ⟨50, _⟩ => ⟨S64x32x32x32, .f32⟩
  | .hbm, ⟨51, _⟩ => ⟨S1x32x1x1, .f32⟩
  | .hbm, ⟨52, _⟩ => ⟨S64x32x32x32, .f32⟩
  | .hbm, ⟨53, _⟩ => ⟨S64x32x32x32, .f32⟩
  | .hbm, ⟨54, _⟩ => ⟨S1x32x1x1, .f32⟩
  | .hbm, ⟨55, _⟩ => ⟨S64x32x32x32, .f32⟩
  | .hbm, ⟨56, _⟩ => ⟨S64x32x32x32, .f32⟩
  | .hbm, ⟨57, _⟩ => ⟨S_, .f32⟩
  | .hbm, ⟨58, _⟩ => ⟨S64x32x32x32, .f32⟩
  | .hbm, ⟨59, _⟩ => ⟨S64x32x32x32, .f32⟩
  | .hbm, ⟨60, _⟩ => ⟨S1x32, .f32⟩
  | .hbm, ⟨61, _⟩ => ⟨S1x64x32x32, .f32⟩
  | .hbm, ⟨62, _⟩ => ⟨S64x1x32x32, .f32⟩
  | .hbm, ⟨63, _⟩ => ⟨S1x1x1x1, .f32⟩
  | .hbm, ⟨64, _⟩ => ⟨S64x1x32x32, .f32⟩
  | .hbm, ⟨65, _⟩ => ⟨S64x1x32x32, .f32⟩
  | .hbm, ⟨66, _⟩ => ⟨S64x1x1024, .f32⟩
  | .hbm, ⟨67, _⟩ => ⟨S64x1x819, .f32⟩
  | .hbm, ⟨68, _⟩ => ⟨S64x1x819, .i32⟩
  | .hbm, ⟨69, _⟩ => ⟨S64x819, .i32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_values : Ref sig .tc := ⟨.hbm, 67, rfl⟩
abbrev main_indices : Ref sig .tc := ⟨.hbm, 68, rfl⟩
abbrev main_v33 : Ref sig .tc := ⟨.hbm, 69, rfl⟩

abbrev nD : Nat := 1
abbrev τ : Topo := Topo.v7x

variable {F : FTy → Type} [FloatOps F]
-- ==== Proof.KernelRun.lean ====
/- The idealized kernel program with its result named: the program's launch, read once more so that the final state also
   says what the result array holds. -/
module

public import proofs.«01_k».proof.Proof.Gen.KernelIdeal.Frame

@[expose] public section

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the launch. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program from zero counters terminates with the result array at what the last stretch of host
    operations leaves in it (the last boundary's contents) and every argument array as launched. -/
theorem run : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => (fun c =>
      ⟨h c _ (mem_uc main_v10 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩))

end Cert.KernelIdeal.Named

end
-- ==== Proof.Reads.lean ====
/- Reading layout operations at an index: the few casts, broadcasts and one-axis sums that the kernel's payloads use. -/
module

public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.WordSum
public import Idealize.ShloMosaic.PureOps.Ideal.Laws

@[expose] public section

namespace Cert.Reads

open Idealize.ShloMosaic Idealize.ShloMosaic.ValueIdx

/-- A comparison of words at an index compares the elements. -/
theorem cmpi_at {s : Shape} {w : Nat} (p : CmpIPredicate) (x y : IVec s w) (i : s.Idx) : cmpi p x y i = IntOp.cmpi p (x i) (y i) := rfl
/-- A bitwise disjunction at an index is the elements'. -/
theorem ori_at {s : Shape} {w : Nat} (x y : IVec s w) (i : s.Idx) : ori x y i = IntOp.ori (x i) (y i) := rfl
/-- A bitwise conjunction at an index is the elements'. -/
theorem andi_at {s : Shape} {w : Nat} (x y : IVec s w) (i : s.Idx) : andi x y i = IntOp.andi (x i) (y i) := rfl

/-- One row cast to one column reads, at `(i, u)`, the row at `i`. -/
theorem shapeCast_1a_a1 {α : Type} {a : Nat} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu]; omega)

/-- One column broadcast over many reads, at `(p, c)`, the column at `p`. -/
theorem broadcastTo_a1_ab {α : Type} {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Inserting a row number into a column's index. -/
theorem lift_axis0 {a b : Nat} (h : Shape.Reduces ⟨2, ![a, b]⟩ [0] ⟨1, ![b]⟩) (c : Fin b) (k : Fin a) :
    h.lift (ix1 c) k = ix2 k c := by
  funext x
  match x with
  | ⟨0, _⟩ => rfl
  | ⟨1, _⟩ => rfl

/-- Inserting a column number into a row's index. -/
theorem lift_axis1 {a b : Nat} (h : Shape.Reduces ⟨2, ![a, b]⟩ [1] ⟨1, ![a]⟩) (r : Fin a) (k : Fin b) :
    h.lift (ix1 r) k = ix2 r k := by
  funext x
  match x with
  | ⟨0, _⟩ => rfl
  | ⟨1, _⟩ => rfl

/-- A sum of words down the columns, each column's values adding up to less than `2^32`, is the sum of the values. -/
theorem multiReductionI_axis0 {a b : Nat} (src : IVec ⟨2, ![a, b]⟩ 32) (h : Shape.Reduces ⟨2, ![a, b]⟩ [0] ⟨1, ![b]⟩)
    (hacc : (0#32 : BitVec 32) = IKind.add.neutral) (c : Fin b) (N : Nat) (hN : ∑ k : Fin a, (src (ix2 k c)).toNat = N) (hlt : N < 2 ^ 32) :
    multiReductionI .add [0] ⟨1, ![b]⟩ src 0#32 h hacc (ix1 c) = BitVec.ofNat 32 N := by
  have hs : ∑ i ∈ Finset.univ.filter (fun i => h.drop i = ix1 c), (src i).toNat = N := by
    rw [h.sum_filter_drop_single (fun i => (src i).toNat) (ix1 c), ← hN]
    exact Finset.sum_congr rfl fun k _ => congrArg (fun z => (src z).toNat) (lift_axis0 h c k)
  apply BitVec.eq_of_toNat_eq
  rw [WordSum.toNat_multiReductionI_add src h hacc (ix1 c) (by rw [hs]; exact hlt), hs, BitVec.toNat_ofNat, Nat.mod_eq_of_lt hlt]

/-- A sum of extended reals along the rows. -/
theorem multiReduction_axis1 {a b : Nat} (src : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_axis1 h r k)

end Cert.Reads
-- ==== Proof.Regions.lean ====
/- What each of the three kernel launches leaves in its result array, as a function of the arrays it reads. -/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- Two zero offsets, as a list and as a constant function. -/
theorem hz2 : (![0, 0] : Fin 2 → Nat) = fun _ => 0 := funext fun a => by fin_cases a <;> rfl
/-- Four zero offsets, as a list and as a constant function. -/
theorem hz4 : (![0, 0, 0, 0] : Fin 4 → Nat) = fun _ => 0 := funext fun a => by fin_cases a <;> rfl

/-! ## The first launch: one sample per grid point -/

/-- Sample `n` of a batch of images, as a batch of one. -/
def sample (x : Vec F S64x3x512x512 .f32) (n : Fin 64) : Vec F S1x3x512x512 .f32 := fun y => x (ix4 n (y 1) (y 2) (y 3))

/-- What the first launch leaves: column block `n` is its payload at sample `n`. -/
def conv (x : Vec F S64x3x512x512 .f32) (w : Vec F S32x768 .f32) (b : Vec F S32x1 .f32) : Vec F S32x65536 .f32 := fun i =>
  k0_pay1 (sample x ⟨(i 1 : Nat) / 1024, by have h : (i 1 : Nat) < 65536 := (i 1).isLt; omega⟩) w b
    (ix2 (i 0) ⟨(i 1 : Nat) % 1024, by omega⟩)

/-- A grid point of the first launch as a sample's number. -/
def pt0 (t : Fin cfg0.N) : Fin 64 := ⟨t.val, Nat.lt_of_lt_of_eq t.isLt N_0⟩

/-- The image's block at a grid point of the first launch is that sample: block number `t` along the samples, zero elsewhere. -/
theorem index0_0 : ∀ t : Fin grid0.N, win0_0.index t 0 = t.val ∧ win0_0.index t 1 = 0 ∧ win0_0.index t 2 = 0 ∧ win0_0.index t 3 = 0 := by
  decide +kernel
/-- The filters' block at every grid point of the first launch is block zero. -/
theorem index0_1 : ∀ t : Fin grid0.N, win0_1.index t 0 = 0 ∧ win0_1.index t 1 = 0 := by decide +kernel
/-- The bias's block at every grid point of the first launch is block zero. -/
theorem index0_2 : ∀ t : Fin grid0.N, win0_2.index t 0 = 0 ∧ win0_2.index t 1 = 0 := by decide +kernel
/-- The result's block at a grid point of the first launch is column block number `t`. -/
theorem index0_3 : ∀ t : Fin grid0.N, win0_3.index t 0 = 0 ∧ win0_3.index t 1 = t.val := by decide +kernel

/-- The image block at point `t` is sample `t`. -/
theorem iblk0_0 (c : Dev nD) (t : Fin cfg0.N) : (iblk0 V c 0 t : Vec F S1x3x512x512 .f32) = sample (V c main_arg0) (pt0 t) := by
  funext y
  obtain ⟨h0, h1, h2, h3⟩ := index0_0 t
  unfold iblk0 sample
  rw [View.read_apply]
  show V c main_arg0 _ = V c main_arg0 _
  congr 1
  funext a
  apply Fin.ext
  have hy : (y 0 : Nat) < 1 := (y 0).isLt
  match a with
  | ⟨0, _⟩ => show win0_0.index t 0 * 1 + 1 * (y 0).val = t.val; rw [h0]; omega
  | ⟨1, _⟩ => show win0_0.index t 1 * 3 + 1 * (y 1).val = (y 1).val; rw [h1]; omega
  | ⟨2, _⟩ => show win0_0.index t 2 * 512 + 1 * (y 2).val = (y 2).val; rw [h2]; omega
  | ⟨3, _⟩ => show win0_0.index t 3 * 512 + 1 * (y 3).val = (y 3).val; rw [h3]; omega

/-- The weights' block at any point is the whole array. -/
theorem iblk0_1 (c : Dev nD) (t : Fin cfg0.N) : (iblk0 V c 1 t : Vec F S32x768 .f32) = V c main_v0 := by
  funext y
  obtain ⟨h0, h1⟩ := index0_1 t
  unfold iblk0
  rw [View.read_apply]
  show V c main_v0 _ = V c main_v0 _
  congr 1
  funext a
  apply Fin.ext
  match a with
  | ⟨0, _⟩ => show win0_1.index t 0 * 32 + 1 * (y 0).val = (y 0).val; rw [h0]; omega
  | ⟨1, _⟩ => show win0_1.index t 1 * 768 + 1 * (y 1).val = (y 1).val; rw [h1]; omega

/-- The bias's block at any point is the whole array. -/
theorem iblk0_2 (c : Dev nD) (t : Fin cfg0.N) : (iblk0 V c 2 t : Vec F S32x1 .f32) = V c main_v1 := by
  funext y
  obtain ⟨h0, h1⟩ := index0_2 t
  unfold iblk0
  rw [View.read_apply]
  show V c main_v1 _ = V c main_v1 _
  congr 1
  funext a
  apply Fin.ext
  match a with
  | ⟨0, _⟩ => show win0_2.index t 0 * 32 + 1 * (y 0).val = (y 0).val; rw [h0]; omega
  | ⟨1, _⟩ => show win0_2.index t 1 * 1 + 1 * (y 1).val = (y 1).val; rw [h1]; omega

/-- The body of the first launch leaves its payload of the whole blocks. -/
theorem out0_3_eq (x0 : Vec F S1x3x512x512 .f32) (x1 : Vec F S32x768 .f32) (x2 : Vec F S32x1 .f32) :
    out0_3 x0 x1 x2 = k0_pay1 x0 x1 x2 := by
  unfold out0_3
  rw [View.canon_unit_zero hz2]
  rw [View.ld_unit_zero (S := S1x3x512x512) hz4, View.ld_unit_zero (S := S32x768) hz2, View.ld_unit_zero (S := S32x1) hz2]

/-- The launch's write-back at point `t` is block `t` of `conv`. -/
theorem flushed0 (c : Dev nD) (t : Fin cfg0.N) :
    (dat0 V c).flushed 3 t = ((cfg0.win 3).blk t).view.read (Elt F) (conv (V c main_arg0) (V c main_v0) (V c main_v1)) := by
  obtain ⟨h0, h1⟩ := index0_3 t
  show (cfg0.win 3).cut (grid0.coords t) ((dat0 V c).after 3 t) = _
  rw [after0_3, iblk0_0, iblk0_1, iblk0_2, out0_3_eq]
  funext y
  rw [View.read_apply]
  have hy : (y 1 : Nat) < 1024 := (y 1).isLt
  show k0_pay1 _ _ _ y = k0_pay1 _ _ _ _
  have e1 : (((cfg0.win 3).blk t).view.emb y 1 : Nat) = t.val * 1024 + (y 1).val := by
    show win0_3.index t 1 * 1024 + 1 * (y 1).val = _; rw [h1]; omega
  have e0 : (((cfg0.win 3).blk t).view.emb y 0 : Nat) = (y 0).val := by
    show win0_3.index t 0 * 32 + 1 * (y 0).val = _; rw [h0]; omega
  congr 2
  · exact Fin.ext (by show t.val = _ / 1024; rw [e1]; omega)
  · funext a
    apply Fin.ext
    match a with
    | ⟨0, _⟩ => exact e0.symm
    | ⟨1, _⟩ => show (y 1).val = _ % 1024; rw [e1]; omega

/-- Column block `t` of the first launch's result holds the columns from `1024 t` on. -/
theorem mem0 (t : Fin cfg0.N) (i : S32x65536.Idx) (h : (i 1 : Nat) / 1024 = t.val) :
    i ∈ ((cfg0.win 3).blk t).view.set := by
  show i ∈ ((View.whole main_v2).slice (win0_3.rect t)).set
  have i0 : (i 0 : Nat) < 32 := (i 0).isLt
  rw [View.set_slice_whole, Rect.mem_set_unit]
  obtain ⟨h0, h1⟩ := index0_3 t
  intro a
  match a with
  | ⟨0, _⟩ => show win0_3.index t 0 * 32 ≤ (i 0 : Nat) ∧ (i 0 : Nat) < win0_3.index t 0 * 32 + 32; rw [h0]; omega
  | ⟨1, _⟩ => show win0_3.index t 1 * 1024 ≤ (i 1 : Nat) ∧ (i 1 : Nat) < win0_3.index t 1 * 1024 + 1024; rw [h1]; omega

/-- The first launch leaves `conv` of its arrays. -/
theorem final0 (c : Dev nD) : (dat0 V c).arrAt 3 cfg0.N = conv (V c main_arg0) (V c main_v0) (V c main_v1) :=
  (dat0 V c).arrAt_eq_of_cover 3 (conv (V c main_arg0) (V c main_v0) (V c main_v1)) (fun t _ => flushed0 V c t) fun i =>
    have i1 : (i 1 : Nat) < 65536 := (i 1).isLt
    ⟨⟨(i 1 : Nat) / 1024, Nat.lt_of_lt_of_eq (by omega) N_0.symm⟩, flush0_3 _, mem0 ⟨(i 1 : Nat) / 1024, Nat.lt_of_lt_of_eq (by omega) N_0.symm⟩ i rfl⟩

/-! ## The second launch: one grid point, every block its whole array -/

/-- Every block of the second launch is block zero. -/
theorem index1 : ∀ t : Fin grid1.N, (win1_0.index t 0 = 0 ∧ win1_0.index t 1 = 0) ∧ (win1_1.index t 0 = 0 ∧ win1_1.index t 1 = 0)
    ∧ (win1_2.index t 0 = 0 ∧ win1_2.index t 1 = 0) ∧ (win1_3.index t 0 = 0 ∧ win1_3.index t 1 = 0)
    ∧ (win1_4.index t 0 = 0 ∧ win1_4.index t 1 = 0) ∧ (win1_5.index t 0 = 0 ∧ win1_5.index t 1 = 0) := by
  decide +kernel

/-- The convolution's block is its whole array. -/
theorem iblk1_0 (c : Dev nD) (t : Fin cfg1.N) : (iblk1 V c 0 t : Vec F S32x65536 .f32) = V c main_v2 := by
  have h := (index1 t).1
  have hz' : (fun a => win1_0.index t a * main_v2.ty.shape.size a) = fun _ => 0 := funext fun a => by
    match a with
    | ⟨0, _⟩ => exact by show win1_0.index t 0 * 32 = 0; rw [h.1]
    | ⟨1, _⟩ => exact by show win1_0.index t 1 * 65536 = 0; rw [h.2]
  exact Memref.read_access_unit_zero (Elt F) main_v2 hz' (fun a => by rw [congrFun hz' a]; simp) (V c main_v2)

/-- The scale's block is its whole array. -/
theorem iblk1_1 (c : Dev nD) (t : Fin cfg1.N) : (iblk1 V c 1 t : Vec F S32x1 .f32) = V c main_v3 := by
  have h := (index1 t).2.1
  have hz' : (fun a => win1_1.index t a * main_v3.ty.shape.size a) = fun _ => 0 := funext fun a => by
    match a with
    | ⟨0, _⟩ => exact by show win1_1.index t 0 * 32 = 0; rw [h.1]
    | ⟨1, _⟩ => exact by show win1_1.index t 1 * 1 = 0; rw [h.2]
  exact Memref.read_access_unit_zero (Elt F) main_v3 hz' (fun a => by rw [congrFun hz' a]; simp) (V c main_v3)

/-- The shift's block is its whole array. -/
theorem iblk1_2 (c : Dev nD) (t : Fin cfg1.N) : (iblk1 V c 2 t : Vec F S32x1 .f32) = V c main_v4 := by
  have h := (index1 t).2.2.1
  have hz' : (fun a => win1_2.index t a * main_v4.ty.shape.size a) = fun _ => 0 := funext fun a => by
    match a with
    | ⟨0, _⟩ => exact by show win1_2.index t 0 * 32 = 0; rw [h.1]
    | ⟨1, _⟩ => exact by show win1_2.index t 1 * 1 = 0; rw [h.2]
  exact Memref.read_access_unit_zero (Elt F) main_v4 hz' (fun a => by rw [congrFun hz' a]; simp) (V c main_v4)

/-- The second weights' block is its whole array. -/
theorem iblk1_3 (c : Dev nD) (t : Fin cfg1.N) : (iblk1 V c 3 t : Vec F S1x32 .f32) = V c main_v5 := by
  have h := (index1 t).2.2.2.1
  have hz' : (fun a => win1_3.index t a * main_v5.ty.shape.size a) = fun _ => 0 := funext fun a => by
    match a with
    | ⟨0, _⟩ => exact by show win1_3.index t 0 * 1 = 0; rw [h.1]
    | ⟨1, _⟩ => exact by show win1_3.index t 1 * 32 = 0; rw [h.2]
  exact Memref.read_access_unit_zero (Elt F) main_v5 hz' (fun a => by rw [congrFun hz' a]; simp) (V c main_v5)

/-- The second bias's block is its whole array. -/
theorem iblk1_4 (c : Dev nD) (t : Fin cfg1.N) : (iblk1 V c 4 t : Vec F S1x1 .f32) = V c main_v6 := by
  have h := (index1 t).2.2.2.2.1
  have hz' : (fun a => win1_4.index t a * main_v6.ty.shape.size a) = fun _ => 0 := funext fun a => by
    match a with
    | ⟨0, _⟩ => exact by show win1_4.index t 0 * 1 = 0; rw [h.1]
    | ⟨1, _⟩ => exact by show win1_4.index t 1 * 1 = 0; rw [h.2]
  exact Memref.read_access_unit_zero (Elt F) main_v6 hz' (fun a => by rw [congrFun hz' a]; simp) (V c main_v6)

/-- The body of the second launch leaves its payload of the whole blocks. -/
theorem out1_5_eq (x0 : Vec F S32x65536 .f32) (x1 x2 : Vec F S32x1 .f32) (x3 : Vec F S1x32 .f32) (x4 : Vec F S1x1 .f32) :
    out1_5 x0 x1 x2 x3 x4 = k1_pay1 x0 x1 x2 x3 x4 := by
  unfold out1_5
  rw [View.canon_unit_zero hz2]
  rw [View.ld_unit_zero (S := S32x65536) hz2, View.ld_unit_zero (S := S32x1) hz2, View.ld_unit_zero (S := S32x1) hz2,
    View.ld_unit_zero (S := S1x32) hz2, View.ld_unit_zero (S := S1x1) hz2]

/-- The second launch's one block holds every index of its result. -/
theorem mem1 (t : Fin cfg1.N) (i : S1x65536.Idx) :
    i ∈ ((cfg1.win 5).blk t).view.set := by
  show i ∈ ((View.whole main_v7).slice (win1_5.rect t)).set
  have i0 : (i 0 : Nat) < 1 := (i 0).isLt
  have i1 : (i 1 : Nat) < 65536 := (i 1).isLt
  rw [View.set_slice_whole, Rect.mem_set_unit]
  have h := (index1 t).2.2.2.2.2
  intro a
  match a with
  | ⟨0, _⟩ => show win1_5.index t 0 * 1 ≤ (i 0 : Nat) ∧ (i 0 : Nat) < win1_5.index t 0 * 1 + 1; rw [h.1]; omega
  | ⟨1, _⟩ => show win1_5.index t 1 * 65536 ≤ (i 1 : Nat) ∧ (i 1 : Nat) < win1_5.index t 1 * 65536 + 65536; rw [h.2]; omega

/-- The second launch leaves its payload of its arrays. -/
theorem final1 (c : Dev nD) : (dat1 V c).arrAt 5 cfg1.N
    = k1_pay1 (V c main_v2) (V c main_v3) (V c main_v4) (V c main_v5) (V c main_v6) :=
  (dat1 V c).arrAt_eq_of_cover 5 (k1_pay1 (V c main_v2) (V c main_v3) (V c main_v4) (V c main_v5) (V c main_v6))
    (fun t _ => by
      show (cfg1.win 5).cut (grid1.coords t) ((dat1 V c).after 5 t) = _
      rw [after1_5, iblk1_0, iblk1_1, iblk1_2, iblk1_3, iblk1_4, out1_5_eq]
      have h := (index1 t).2.2.2.2.2
      have hz' : (fun a => win1_5.index t a * main_v7.ty.shape.size a) = fun _ => 0 := funext fun a => by
        match a with
        | ⟨0, _⟩ => exact by show win1_5.index t 0 * 1 = 0; rw [h.1]
        | ⟨1, _⟩ => exact by show win1_5.index t 1 * 65536 = 0; rw [h.2]
      exact (Memref.read_access_unit_zero (Elt F) main_v7 hz' (fun a => by rw [congrFun hz' a]; simp) _).symm) fun i =>
    ⟨⟨0, Nat.lt_of_lt_of_eq (by omega) N_1.symm⟩, flush1_5 _, mem1 ⟨0, Nat.lt_of_lt_of_eq (by omega) N_1.symm⟩ i⟩

/-! ## The third launch: one grid point, a loop over the rows -/

/-- Row `b` of the scores, as a one-row array. -/
def row (x : Vec F S64x1024 .f32) (b : Fin 64) : Vec F S1x1024 .f32 := fun y => x (ix2 b (y 1))

/-- What the third launch leaves: row `b` is its payload at row `b`. -/
def topk (x : Vec F S64x1024 .f32) : Vec F S64x1024 .i32 := fun i => k2_pay1 (row x (i 0)) (ix2 0 (i 1))

/-- A loop trip's payload of the row it loads is the result's row there. -/
theorem piece_row (x : Vec F S64x1024 .f32) (k : Fin 64) (off : Fin 2 → Nat) (e : off = ![k.val, 0])
    (inb : ∀ a, off a + S1x1024.size a ≤ S64x1024.size a) (y : S1x1024.Idx) :
    k2_pay1 (View.ld x (Rect.unit (s := S64x1024) off S1x1024.size inb)) y
      = topk x ((Rect.unit (s := S64x1024) off S1x1024.size inb).emb y) := by
  subst e
  have hk : ∀ z : S1x1024.Idx, ((Rect.unit (s := S64x1024) ![k.val, 0] S1x1024.size inb).emb z) = ix2 k (z 1) := fun z => by
    have hz : (z 0 : Nat) < 1 := (z 0).isLt
    funext a
    apply Fin.ext
    match a with
    | ⟨0, _⟩ => show k.val + 1 * (z 0).val = k.val; omega
    | ⟨1, _⟩ => show 0 + 1 * (z 1).val = (z 1).val; omega
  have hr : View.ld x (Rect.unit (s := S64x1024) ![k.val, 0] S1x1024.size inb) = row x k := by
    funext z
    exact congrArg x (hk z)
  have hy : y = ix2 0 (y 1) := by
    funext a
    match a with
    | ⟨0, _⟩ => exact Subsingleton.elim (α := Fin 1) _ _
    | ⟨1, _⟩ => rfl
  rw [hr, hk]
  exact congrArg _ hy

/-- Every piece that trip `k` writes is a block of the result. -/
theorem trip_row (c : Dev nD) (i : grid2.Coords) (a1 : Memref sig .tc .vmem S64x1024 .f32) (h1 : a1.IsWhole)
    (a2 : Memref sig .tc .vmem S64x1024 .i32) (h2 : a2.IsWhole) (x : Vec F S64x1024 .f32) (k : Fin k2_t1_loop.trips) :
    ∀ p ∈ tripL_k2_t1 (F := F) Variants.none c none i a1 h1 a2 h2 (h1.unread x) k, ∀ y, p.2 y = topk x (p.1.emb y) := by
  unfold tripL_k2_t1 trip_k2_t1
  dsimp only
  intro p hp
  obtain rfl := List.mem_singleton.mp hp
  intro y
  dsimp only
  rw [View.readAt_eq_ld, h1.read_unread]
  exact piece_row x ⟨k.val, Nat.lt_of_lt_of_le k.isLt k2_t1_abs.2.1⟩ _ (k2_off1_eq k) _ y

/-- Every piece that the trips before `k` write is a block of the result. -/
theorem trips_row (c : Dev nD) (i : grid2.Coords) (a1 : Memref sig .tc .vmem S64x1024 .f32) (h1 : a1.IsWhole)
    (a2 : Memref sig .tc .vmem S64x1024 .i32) (h2 : a2.IsWhole) (x : Vec F S64x1024 .f32) : ∀ k : Nat, k ≤ k2_t1_loop.trips →
    ∀ p ∈ pb_k2_t1 (F := F) Variants.none c none i a1 h1 a2 h2 (h1.unread x) k, ∀ y, p.2 y = topk x (p.1.emb y)
  | 0, _ => fun p hp => absurd hp (by unfold pb_k2_t1; exact List.not_mem_nil)
  | k + 1, hk => fun p hp => by
    rw [pb_k2_t1_succ Variants.none c none i a1 h1 a2 h2 (h1.unread x) ⟨k, hk⟩] at hp
    rcases List.mem_append.mp hp with hp | hp
    · exact trip_row c i a1 h1 a2 h2 x ⟨k, hk⟩ p hp
    · exact trips_row c i a1 h1 a2 h2 x k (Nat.le_of_succ_le hk) p hp

/-- The body of the third launch leaves `topk` of its block. -/
theorem out2_eq (c : Dev nD) (i : grid2.Coords) (a1 : Memref sig .tc .vmem S64x1024 .f32) (h1 : a1.IsWhole)
    (a2 : Memref sig .tc .vmem S64x1024 .i32) (h2 : a2.IsWhole) (x : Vec F S64x1024 .f32) :
    out2_A_1 c i a1 h1 a2 h2 x = topk x := by
  unfold out2_A_1
  rw [View.read_writes_eq_canon _ _ _ (cover2_A_1 c i a1 h1 a2 h2 x)]
  funext y
  refine View.canon_apply_of_pieces (topk x) _ ?_ y (cover2_A_1 c i a1 h1 a2 h2 x y)
  unfold kernelRun2_A
  dsimp only
  sl_unfold_words
  exact trips_row c i a1 h1 a2 h2 x k2_t1_loop.trips (Nat.le_refl _)

/-- Every block of the third launch is block zero. -/
theorem index2 : ∀ t : Fin grid2.N, (win2_0.index t 0 = 0 ∧ win2_0.index t 1 = 0) ∧ (win2_1.index t 0 = 0 ∧ win2_1.index t 1 = 0) := by
  decide +kernel

/-- The scores' block is their whole array. -/
theorem iblk2_0 (c : Dev nD) (t : Fin cfg2.N) : (iblk2 V c 0 t : Vec F S64x1024 .f32) = V c main_v8 := by
  have h := (index2 t).1
  have hz' : (fun a => win2_0.index t a * main_v8.ty.shape.size a) = fun _ => 0 := funext fun a => by
    match a with
    | ⟨0, _⟩ => exact by show win2_0.index t 0 * 64 = 0; rw [h.1]
    | ⟨1, _⟩ => exact by show win2_0.index t 1 * 1024 = 0; rw [h.2]
  exact Memref.read_access_unit_zero (Elt F) main_v8 hz' (fun a => by rw [congrFun hz' a]; simp) (V c main_v8)

/-- The third launch's one block holds every index of its result. -/
theorem mem2 (t : Fin cfg2.N) (i : S64x1024.Idx) :
    i ∈ ((cfg2.win 1).blk t).view.set := by
  show i ∈ ((View.whole main_v9).slice (win2_1.rect t)).set
  have i0 : (i 0 : Nat) < 64 := (i 0).isLt
  have i1 : (i 1 : Nat) < 1024 := (i 1).isLt
  rw [View.set_slice_whole, Rect.mem_set_unit]
  have h := (index2 t).2
  intro a
  match a with
  | ⟨0, _⟩ => show win2_1.index t 0 * 64 ≤ (i 0 : Nat) ∧ (i 0 : Nat) < win2_1.index t 0 * 64 + 64; rw [h.1]; omega
  | ⟨1, _⟩ => show win2_1.index t 1 * 1024 ≤ (i 1 : Nat) ∧ (i 1 : Nat) < win2_1.index t 1 * 1024 + 1024; rw [h.2]; omega

/-- The third launch leaves `topk` of its array. -/
theorem final2 (c : Dev nD) : (dat2 V c).arrAt 1 cfg2.N = topk (V c main_v8) :=
  (dat2 V c).arrAt_eq_of_cover 1 (topk (V c main_v8))
    (fun t _ => by
      show (cfg2.win 1).cut (grid2.coords t) ((dat2 V c).after 1 t) = _
      rw [after2_1]
      unfold outsAt2
      rw [out2_eq, iblk2_0]
      have h := (index2 t).2
      have hz' : (fun a => win2_1.index t a * main_v9.ty.shape.size a) = fun _ => 0 := funext fun a => by
        match a with
        | ⟨0, _⟩ => exact by show win2_1.index t 0 * 64 = 0; rw [h.1]
        | ⟨1, _⟩ => exact by show win2_1.index t 1 * 1024 = 0; rw [h.2]
      exact (Memref.read_access_unit_zero (Elt F) main_v9 hz' (fun a => by rw [congrFun hz' a]; simp) _).symm) fun i =>
    ⟨⟨0, Nat.lt_of_lt_of_eq (by omega) N_2.symm⟩, flush2_1 _, mem2 ⟨0, Nat.lt_of_lt_of_eq (by omega) N_2.symm⟩ i⟩

end Cert.KernelIdeal.Regions

end
-- ==== Proof.Spec.lean ====
/- The common mathematics of the two programs: a patch convolution, a normalization over all the values of a channel, and the
   score that a pixel of the feature map gets. Sums run over any finite set of positions, so that the two programs may lay
   the positions out differently. -/
module

public import Idealize.ShloMosaic.Lib.ValueIdx
public import Idealize.ShloMosaic.PureOps.Ideal.Laws

@[expose] public section

noncomputable section

open scoped BigOperators

namespace Cert.Spec

open Idealize.ShloMosaic Idealize.ShloMosaic.ValueIdx

/-- A position of the feature map: the sample, the patch's row and the patch's column. -/
abbrev Place := Fin 64 × Fin 32 × Fin 32

/-- A position within a patch: the colour, the row and the column. -/
abbrev Tap := Fin 3 × Fin 16 × Fin 16

/-- The patches of one sample numbered row by row. -/
def pixel : Fin 32 × Fin 32 ≃ Fin 1024 := finProdFinEquiv (m := 32) (n := 32)

/-- All positions numbered sample by sample. -/
def column : Place ≃ Fin 65536 := ((Equiv.refl (Fin 64)).prodCongr pixel).trans (finProdFinEquiv (m := 64) (n := 1024))

/-- The taps of a patch numbered colour by colour, row by row. -/
def entry : Tap ≃ Fin 768 :=
  ((Equiv.refl (Fin 3)).prodCongr (finProdFinEquiv (m := 16) (n := 16))).trans (finProdFinEquiv (m := 3) (n := 256))

/-- The number of a patch. -/
theorem pixel_val (q : Fin 32 × Fin 32) : (pixel q).val = 32 * q.1.val + q.2.val := Nat.add_comm _ _

/-- The number of a position. -/
theorem column_val (q : Place) : (column q).val = 1024 * q.1.val + (pixel q.2).val := Nat.add_comm _ _

/-- The number of a tap. -/
theorem entry_val (t : Tap) : (entry t).val = 256 * t.1.val + (16 * t.2.1.val + t.2.2.val) := by
  show t.2.2.val + 16 * t.2.1.val + 256 * t.1.val = _
  omega

/-- A coordinate of the image: patch `h`, offset `i`. -/
def at16 (h : Fin 32) (i : Fin 16) : Fin 512 := ⟨16 * h.val + i.val, by omega⟩

/-- The convolution of the image with 16 by 16 patches at stride 16, plus the bias: channel `o` at a position. -/
def feature (x : FVec Ideal ⟨4, ![64, 3, 512, 512]⟩ .f32) (w : FVec Ideal ⟨4, ![32, 3, 16, 16]⟩ .f32) (b : FVec Ideal ⟨1, ![32]⟩ .f32)
    (o : Fin 32) (q : Place) : EReal :=
  (∑ t : Tap, w (ix4 o t.1 t.2.1 t.2.2) * x (ix4 q.1 t.1 (at16 q.2.1 t.2.1) (at16 q.2.2 t.2.2))) + b (ix1 o)

/-- The number of positions, as the programs hold it. -/
def count : EReal := Ideal.ofBits .f32 0x47800000#32

/-- The small number added to the variance. -/
def small : EReal := Ideal.ofBits .f32 0x3727C5AC#32

section Normalize
variable {ι κ : Type} [Fintype ι] [Fintype κ]

/-- The mean of a channel. -/
def mean (a : ι → EReal) : EReal := Ideal.div (∑ i, a i) count

/-- The variance of a channel. -/
def variance (a : ι → EReal) : EReal := Ideal.div (∑ i, (a i - mean a) * (a i - mean a)) count

/-- A channel normalized, scaled, shifted and clipped below at zero. -/
def act (a : ι → EReal) (g s : EReal) (i : ι) : EReal :=
  max (Ideal.div (a i - mean a) (Ideal.sqrt (variance a + small)) * g + s) 0

/-- The score of a position: the channels' activations weighted, plus the bias. -/
def score (y : Fin 32 → ι → EReal) (g s w : Fin 32 → EReal) (b : EReal) (i : ι) : EReal :=
  (∑ o, w o * act (y o) (g o) (s o) i) + b

/-- The mean does not depend on how the positions are laid out. -/
theorem mean_equiv (e : κ ≃ ι) (a : ι → EReal) : mean (fun k => a (e k)) = mean a := by
  unfold mean
  rw [Equiv.sum_comp e a]

/-- Nor does the variance. -/
theorem variance_equiv (e : κ ≃ ι) (a : ι → EReal) : variance (fun k => a (e k)) = variance a := by
  unfold variance
  rw [mean_equiv e a, Equiv.sum_comp e (fun i => (a i - mean a) * (a i - mean a))]

/-- Nor do the scores. -/
theorem score_equiv (e : κ ≃ ι) (y : Fin 32 → ι → EReal) (g s w : Fin 32 → EReal) (b : EReal) (k : κ) :
    score (fun o k => y o (e k)) g s w b k = score y g s w b (e k) := by
  unfold score act
  simp only [mean_equiv e, variance_equiv e]

end Normalize

/-- The number of positions is 65536. -/
theorem count_eq : count = ((65536 : ℝ) : EReal) := by
  unfold count
  simp [Ideal.ofBits, Ideal.ieee, -EReal.coe_mul]
  norm_num

/-- There are positions. -/
theorem count_pos : (0 : EReal) < count := by
  rw [count_eq]
  exact_mod_cast (by norm_num : (0 : ℝ) < 65536)

end Cert.Spec

end
-- ==== Proof.ConvValue.lean ====
/- The first launch at the extended reals: the array of channel values, laid out position by position. -/
module

public import proofs.«01_k».proof.Proof.Gen.KernelIdeal.Skeleton
public import proofs.«01_k».proof.Proof.Reads
public import proofs.«01_k».proof.Proof.Regions
public import proofs.«01_k».proof.Proof.Spec
public import Idealize.ShloMosaic.Lib.MatmulPlain

@[expose] public section

set_option maxRecDepth 16384

noncomputable section

open scoped BigOperators

namespace Cert.KernelIdeal.ConvValue

open Cert.KernelIdeal Cert.KernelIdeal.Gen Cert.Reads Cert.Spec
open Idealize.ShloMosaic Idealize.ShloMosaic.ValueIdx

/-- The matrix of patches of one sample: at tap `t` and patch `p` it holds the image's value there. -/
theorem patches_apply (v : Vec Ideal S1x3x512x512 .f32) (t : Tap) (p : Fin 32 × Fin 32) :
    shapeCast S768x1024 (transpose S3x16x16x32x32 [0, 2, 4, 1, 3]
        (shapeCast S3x32x16x32x16 (shapeCast S3x512x512 v shapeCasts_S1x3x512x512_S3x512x512) shapeCasts_S3x512x512_S3x32x16x32x16)
        transposes_S3x32x16x32x16_p0_2_4_1_3_S3x16x16x32x32) shapeCasts_S3x16x16x32x32_S768x1024 (ix2 (entry t) (pixel p))
      = v (ix4 0 t.1 (at16 p.1 t.2.1) (at16 p.2 t.2.2)) := by
  refine (shapeCast_apply _ _ _ (ix5 t.1 t.2.1 t.2.2 p.1 p.2) ?_).trans ?_
  · rw [Shape.rowMajor_val_five, Shape.rowMajor_val_two]
    show (((t.1.val * 16 + t.2.1.val) * 16 + t.2.2.val) * 32 + p.1.val) * 32 + p.2.val = (entry t).val * 1024 + (pixel p).val
    rw [entry_val, pixel_val]; omega
  refine (transpose_apply _ _ _ _ (ix5 t.1 p.1 t.2.1 p.2 t.2.2) ?_).trans ?_
  · intro b
    match b with
    | ⟨0, _⟩ => rfl
    | ⟨1, _⟩ => rfl
    | ⟨2, _⟩ => rfl
    | ⟨3, _⟩ => rfl
    | ⟨4, _⟩ => rfl
  refine (shapeCast_apply _ _ _ (ix3 t.1 (at16 p.1 t.2.1) (at16 p.2 t.2.2)) ?_).trans ?_
  · rw [Shape.rowMajor_val_three, Shape.rowMajor_val_five]
    show (t.1.val * 512 + (16 * p.1.val + t.2.1.val)) * 512 + (16 * p.2.val + t.2.2.val)
      = (((t.1.val * 32 + p.1.val) * 16 + t.2.1.val) * 32 + p.2.val) * 16 + t.2.2.val
    omega
  refine shapeCast_apply _ _ _ (ix4 0 t.1 (at16 p.1 t.2.1) (at16 p.2 t.2.2)) ?_
  rw [Shape.rowMajor_val_four, Shape.rowMajor_val_three]
  show ((0 * 3 + t.1.val) * 512 + (at16 p.1 t.2.1).val) * 512 + (at16 p.2 t.2.2).val
    = (t.1.val * 512 + (at16 p.1 t.2.1).val) * 512 + (at16 p.2 t.2.2).val
  omega

/-- The filters flattened to a matrix: row `o`, tap `t`. -/
theorem filters_apply (w : FVec Ideal S32x3x16x16 .f32) (h : S32x3x16x16.ShapeCasts S32x768) (o : Fin 32) (t : Tap) :
    shapeCast S32x768 w h (ix2 o (entry t)) = w (ix4 o t.1 t.2.1 t.2.2) := by
  refine shapeCast_apply _ _ _ _ ?_
  rw [Shape.rowMajor_val_four, Shape.rowMajor_val_two]
  show ((o.val * 3 + t.1.val) * 16 + t.2.1.val) * 16 + t.2.2.val = o.val * 768 + (entry t).val
  rw [entry_val]; omega

/-- The payload of one sample at channel `o` and patch `p`. -/
theorem k0_pay1_apply (v : Vec Ideal S1x3x512x512 .f32) (w : Vec Ideal S32x768 .f32) (b : Vec Ideal S32x1 .f32) (o : Fin 32)
    (p : Fin 32 × Fin 32) :
    k0_pay1 (F := Ideal) v w b (ix2 o (pixel p))
      = (∑ t : Tap, w (ix2 o (entry t)) * v (ix4 0 t.1 (at16 p.1 t.2.1) (at16 p.2 t.2.2))) + b (ix2 o 0) := by
  unfold k0_pay1
  dsimp only
  simp only [shapeCast_self]
  rw [addf_apply, broadcastTo_a1_ab]
  refine congrArg (· + b (ix2 o 0)) ?_
  refine (Ideal.matmul_plain_apply _ _ _ _ _ _).trans ?_
  rw [constant_apply, Ideal.ofBits_zero_f32, zero_add, ← Equiv.sum_comp entry]
  exact Finset.sum_congr rfl fun t _ => congrArg (w (ix2 o (entry t)) * ·) (patches_apply v t p)

/-- The array the launch leaves, from the program's arguments: the channel values, position by position. -/
theorem conv_apply (x : Vec Ideal S64x3x512x512 .f32) (w : FVec Ideal S32x3x16x16 .f32) (b : FVec Ideal S32 .f32)
    (h : S32x3x16x16.ShapeCasts S32x768) (h' : S32.ShapeCasts S32x1) (o : Fin 32) (q : Place) :
    Regions.conv (F := Ideal) x (shapeCast S32x768 w h) (shapeCast S32x1 b h') (ix2 o (column q)) = feature x w b o q := by
  unfold Regions.conv
  have hp := (pixel q.2).isLt
  have hc := column_val q
  have e1 : (⟨(column q).val / 1024, by omega⟩ : Fin 64) = q.1 := Fin.ext (by show _ / _ = _; omega)
  have e2 : (⟨(column q).val % 1024, by omega⟩ : Fin 1024) = pixel q.2 := Fin.ext (by show _ % _ = _; omega)
  show k0_pay1 (Regions.sample x (⟨(column q).val / 1024, by omega⟩ : Fin 64)) _ _ (ix2 o (⟨(column q).val % 1024, by omega⟩ : Fin 1024)) = _
  rw [e1, e2, k0_pay1_apply, shapeCast_a_a1_apply]
  unfold feature
  refine congrArg (· + b (ix1 o)) (Finset.sum_congr rfl fun t _ => ?_)
  rw [filters_apply]
  rfl

end Cert.KernelIdeal.ConvValue

end
-- ==== Proof.ScoreValue.lean ====
/- The second launch's payload at the extended reals: the scores of the positions from the channels' values. -/
module

public import proofs.«01_k».proof.Proof.Gen.KernelIdeal.Skeleton
public import proofs.«01_k».proof.Proof.Reads
public import proofs.«01_k».proof.Proof.Spec
public import Idealize.ShloMosaic.Lib.MatmulPlain

@[expose] public section

set_option maxRecDepth 16384

noncomputable section

open scoped BigOperators

namespace Cert.KernelIdeal.ScoreValue

open Cert.KernelIdeal Cert.KernelIdeal.Gen Cert.Reads
open Idealize.ShloMosaic Idealize.ShloMosaic.ValueIdx

/-- The row sums kept as a column. -/
theorem column_sum (src : FVec Ideal S32x65536 .f32) (o : Fin 32) (u : Fin 1) :
    shapeCast S32x1 (multiReduction .add [1] S32 src 0x00000000#32 reduces_S32x65536_S32 (.inl rfl) rfl) shapeCasts_S32_S32x1 (ix2 o u)
      = ∑ q : Fin 65536, src (ix2 o q) :=
  (shapeCast_a_a1_apply _ _ _ _).trans (multiReduction_axis1 src _ _ _ _ o)

/-- A square root at an index. -/
theorem sqrt_at {s : Shape} (a : FVec Ideal s .f32) (i : s.Idx) : sqrt a i = Ideal.sqrt (a i) := rfl

/-- The payload at position `q` is that position's score. -/
theorem k1_pay1_apply (y : Vec Ideal S32x65536 .f32) (g s : Vec Ideal S32x1 .f32) (w : Vec Ideal S1x32 .f32) (b : Vec Ideal S1x1 .f32)
    (q : Fin 65536) :
    k1_pay1 (F := Ideal) y g s w b (ix2 0 q)
      = Spec.score (fun o q => y (ix2 o q)) (fun o => g (ix2 o 0)) (fun o => s (ix2 o 0)) (fun o => w (ix2 0 o)) (b (ix2 0 0)) q := by
  unfold k1_pay1
  dsimp only
  simp only [shapeCast_self]
  rw [addf_apply]
  refine congrArg₂ (· + ·) ?_ ?_
  · refine (Ideal.matmul_plain_apply _ _ _ _ _ _).trans ?_
    rw [constant_apply, Ideal.ofBits_zero_f32, zero_add]
    refine Finset.sum_congr rfl fun o _ => congrArg (w (ix2 0 o) * ·) ?_
    rw [maximumf_apply, addf_apply, mulf_apply, divf_apply, subf_apply]
    simp only [broadcastTo_a1_ab]
    rw [sqrt_at, addf_apply, divf_apply, divf_apply, column_sum, column_sum]
    have hz : (broadcast S32x65536 (Scalar.ofBits .f32 0x00000000#32 : Ideal .f32)) (ix2 o q) = (0 : EReal) := Ideal.ofBits_zero_f32
    rw [hz]
    refine congrArg (fun z : EReal => max (Ideal.div (y (ix2 o q) - Spec.mean (fun q => y (ix2 o q)))
      (Ideal.sqrt (Ideal.div z Spec.count + Spec.small)) * g (ix2 o 0) + s (ix2 o 0)) 0) (Finset.sum_congr rfl fun p _ => ?_)
    rw [mulf_apply, subf_apply, broadcastTo_a1_ab, divf_apply, column_sum]
    rfl
  · refine congrArg b (funext fun a => ?_)
    match a with
    | ⟨0, _⟩ => rfl
    | ⟨1, _⟩ => rfl

end Cert.KernelIdeal.ScoreValue

end
-- ==== Proof.Rank.lean ====
module

public import Idealize.ShloMosaic.Lib.SortFacts
public import Idealize.ShloMosaic.Lib.PlanTiles.StableSort

@[expose] public section

/-! # Sorting a row in decreasing order and counting ranks

A stable sort in decreasing order puts at position `r` the one entry whose rank is `r`, the rank of an entry being
the number of entries that are greater, or equal and earlier. -/

namespace Cert.Rank
open Idealize Idealize.ShloMosaic

variable {n : Nat} {α : Type} [LinearOrder α]

/-- Entry `k` comes before entry `c` in decreasing order: it is greater, or equal and earlier. -/
def Ahead (s : Fin n → α) (k c : Fin n) : Prop := s c < s k ∨ (s k = s c ∧ k < c)

/-- Whether one entry comes ahead of another is decidable. -/
instance (s : Fin n → α) (k c : Fin n) : Decidable (Ahead s k c) := by unfold Ahead; infer_instance

/-- How many entries come before entry `c`. -/
def rank (s : Fin n → α) (c : Fin n) : Nat := (Finset.univ.filter fun k => Ahead s k c).card

/-- The entry that the stable sort in decreasing order puts at position `r`. -/
def sorted (s : Fin n → α) (r : Fin n) : Fin n := sortedFrom (fun k k' => decide (s k' < s k)) r

/-- The number of entries strictly below `a` orders the entries as their values do. -/
theorem card_below_lt (s : Fin n → α) (a b : Fin n) :
    (Finset.univ.filter fun k => s k < s a).card < (Finset.univ.filter fun k => s k < s b).card ↔ s a < s b := by
  constructor
  · intro h
    by_contra hab
    refine absurd h (not_lt.mpr (Finset.card_le_card fun k hk => ?_))
    simp only [Finset.mem_filter, Finset.mem_univ, true_and] at hk ⊢
    exact lt_of_lt_of_le hk (not_lt.mp hab)
  · intro h
    refine Finset.card_lt_card ⟨fun k hk => ?_, fun hsub => ?_⟩
    · simp only [Finset.mem_filter, Finset.mem_univ, true_and] at hk ⊢
      exact hk.trans h
    · have := hsub (by simpa using h : a ∈ _)
      simp at this

/-- An earlier position of the sorted order holds an entry that comes before. -/
theorem sorted_ahead (s : Fin n → α) {i j : Fin n} (hij : i < j) : Ahead s (sorted s i) (sorted s j) := by
  have hG : (fun k k' : Fin n => decide (s k' < s k))
      = fun k k' => decide ((Finset.univ.filter fun x => s x < s k').card < (Finset.univ.filter fun x => s x < s k).card) := by
    funext k k'; exact decide_eq_decide.mpr (card_below_lt s k' k).symm
  have hp := PlanTiles.pairwise_stableSort_lex (fun k : Fin n => (Finset.univ.filter fun x => s x < s k).card) (· < ·)
    (List.finRange n) (List.pairwise_lt_finRange n)
  rw [← hG] at hp
  have h := List.pairwise_iff_get.mp hp
    ⟨i, by rw [(perm_stableSort _ _).length_eq, List.length_finRange]; exact i.isLt⟩
    ⟨j, by rw [(perm_stableSort _ _).length_eq, List.length_finRange]; exact j.isLt⟩ hij
  change PlanTiles.Lex _ _ (sorted s i) (sorted s j) at h
  rcases h with h | ⟨h, h'⟩
  · exact Or.inl ((card_below_lt s _ _).mp h)
  · dsimp only at h
    refine Or.inr ⟨?_, h'⟩
    have h1 := mt (card_below_lt s (sorted s i) (sorted s j)).mpr (by omega)
    have h2 := mt (card_below_lt s (sorted s j) (sorted s i)).mpr (by omega)
    exact le_antisymm (not_lt.mp h2) (not_lt.mp h1)

/-- Of two entries only one comes before the other, and none before itself. -/
theorem Ahead.asymm {s : Fin n → α} {a b : Fin n} (h : Ahead s a b) : ¬ Ahead s b a := by
  rintro (h' | ⟨e, h'⟩)
  · rcases h with h | ⟨e, -⟩
    · exact lt_asymm h h'
    · exact absurd h' (by rw [e]; exact lt_irrefl _)
  · rcases h with h | ⟨-, h⟩
    · exact absurd h (by rw [e]; exact lt_irrefl _)
    · exact lt_asymm h h'

/-- The entry at position `r` of the sorted order has rank `r`. -/
theorem rank_sorted (s : Fin n → α) (r : Fin n) : rank s (sorted s r) = r := by
  have hset : (Finset.univ.filter fun k => Ahead s k (sorted s r)) = (Finset.Iio r).map ⟨sorted s, sortedFrom_injective _⟩ := by
    ext k
    obtain ⟨i, rfl⟩ := sortedFrom_surjective (fun k k' => decide (s k' < s k)) k
    change sorted s i ∈ _ ↔ sorted s i ∈ _
    simp only [Finset.mem_filter, Finset.mem_univ, true_and, Finset.mem_map, Finset.mem_Iio, Function.Embedding.coeFn_mk]
    constructor
    · intro h
      refine ⟨i, ?_, rfl⟩
      rcases lt_trichotomy i r with hl | rfl | hg
      · exact hl
      · exact absurd h h.asymm
      · exact absurd h (sorted_ahead s hg).asymm
    · rintro ⟨i', hi', he⟩
      rw [← he]; exact sorted_ahead s hi'
  rw [rank, hset, Finset.card_map, Fin.card_Iio]

/-- The entry of rank `r` is the one at position `r` of the sorted order. -/
theorem rank_eq_iff (s : Fin n → α) (k r : Fin n) : rank s k = r ↔ k = sorted s r := by
  constructor
  · intro h
    obtain ⟨i, rfl⟩ := sortedFrom_surjective (fun k k' => decide (s k' < s k)) k
    change rank s (sorted s i) = r at h
    rw [rank_sorted] at h
    change sorted s i = _
    rw [Fin.ext h]
  · rintro rfl; exact rank_sorted s r

/-- Summing the positions whose rank is `r` gives the position that the sorted order puts at `r`. -/
theorem sum_rank_eq (s : Fin n → α) (r : Fin n) :
    (∑ k : Fin n, if rank s k = r then (k : Nat) else 0) = sorted s r := by
  rw [Finset.sum_eq_single (sorted s r)]
  · rw [if_pos (rank_sorted s r)]
  · intro k _ hk; rw [if_neg fun h => hk ((rank_eq_iff s k r).mp h)]
  · intro h; exact absurd (Finset.mem_univ _) h

end Cert.Rank
-- ==== Proof.TopkPay.lean ====
/- One row of the third launch: the word it stores at position `r` is the position of the row's entry of rank `r`. -/
module

public import proofs.«01_k».proof.Proof.Gen.KernelIdeal.Skeleton
public import proofs.«01_k».proof.Proof.Reads
public import proofs.«01_k».proof.Proof.Rank

@[expose] public section

set_option maxRecDepth 16384

noncomputable section

namespace Cert.KernelIdeal.TopkPay

open Cert.KernelIdeal Cert.KernelIdeal.Gen Cert.Reads
open Idealize.ShloMosaic Idealize.ShloMosaic.ValueIdx

/-- A one-bit word is one exactly when its truth value is. -/
theorem ofBool_eq_one (b : Bool) : BitVec.ofBool b = 1#1 ↔ b = true := by cases b <;> decide

/-- Two small numbers compare as 32-bit words as they do as numbers. -/
theorem slt_ofNat {a b : Nat} (ha : a < 1024) (hb : b < 1024) : (BitVec.ofNat 32 a).slt (BitVec.ofNat 32 b) = decide (a < b) := by
  rw [BitVec.slt_eq_decide, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)]
  exact decide_eq_decide.mpr (by omega)

/-- Two small numbers are equal as 32-bit words exactly when they are equal. -/
theorem beq_ofNat {a b : Nat} (ha : a < 2 ^ 32) (hb : b < 2 ^ 32) : (BitVec.ofNat 32 a == BitVec.ofNat 32 b) = decide (a = b) := by
  rw [Bool.eq_iff_iff, beq_iff_eq, decide_eq_true_eq]
  constructor
  · intro h
    have := congrArg BitVec.toNat h
    rwa [BitVec.toNat_ofNat, BitVec.toNat_ofNat, Nat.mod_eq_of_lt ha, Nat.mod_eq_of_lt hb] at this
  · rintro rfl; rfl

/-- The word of the comparison matrix at `(k, c)`: one if entry `k` comes before entry `c`. -/
theorem ahead_word {n : Nat} (s : Fin n → EReal) (hn : n ≤ 1024) (k c : Fin n) :
    ((IntOp.ori (FloatOps.cmpf (F := Ideal) (φ := .f32) .ogt (s k) (s c))
        (IntOp.andi (FloatOps.cmpf (F := Ideal) (φ := .f32) .oeq (s k) (s c))
          (IntOp.cmpi .slt (BitVec.ofNat 32 k.val) (BitVec.ofNat 32 c.val)))).setWidth 32).toNat
      = if Rank.Ahead s k c then 1 else 0 := by
  have h1 : FloatOps.cmpf (F := Ideal) (φ := .f32) .ogt (s k) (s c) = BitVec.ofBool (decide (s c < s k)) := rfl
  have h2 : FloatOps.cmpf (F := Ideal) (φ := .f32) .oeq (s k) (s c) = BitVec.ofBool (decide (s k = s c)) := rfl
  have h3 : IntOp.cmpi .slt (BitVec.ofNat 32 k.val) (BitVec.ofNat 32 c.val) = BitVec.ofBool (decide (k < c)) := by
    have hk := k.isLt; have hc := c.isLt
    show BitVec.ofBool ((BitVec.ofNat 32 k.val).slt (BitVec.ofNat 32 c.val)) = _
    rw [slt_ofNat (by omega) (by omega)]; rfl
  rw [h1, h2, h3]
  unfold Rank.Ahead IntOp.ori IntOp.andi
  by_cases p : s c < s k <;> by_cases q : s k = s c <;> by_cases r : k < c <;> simp [p, q, r]

/-- Picking a number where a word equals a position: the number there, zero elsewhere. -/
theorem pick_word {N k r : Nat} (hN : N < 2 ^ 32) (hk : k < 1024) (hr : r < 1024) :
    BitVec.toNat (w := 32) (Scalar.select (IntOp.cmpi .eq (BitVec.ofNat 32 N) (BitVec.ofNat 32 r)) (BitVec.ofNat 32 k) 0#32)
      = if N = r then k else 0 := by
  show BitVec.toNat (w := 32) (Scalar.select (BitVec.ofBool (BitVec.ofNat 32 N == BitVec.ofNat 32 r)) (BitVec.ofNat 32 k) 0#32) = _
  rw [beq_ofNat hN (by omega)]
  by_cases h : N = r
  · rw [if_pos h, decide_eq_true h]
    show (BitVec.ofNat 32 k).toNat = _
    rw [BitVec.toNat_ofNat, Nat.mod_eq_of_lt (by omega)]
  · rw [if_neg h, decide_eq_false h]; rfl

/-- The same at any word equal to the number's. -/
theorem pick_word_of {N k r : Nat} (hN : N < 2 ^ 32) (hk : k < 1024) (hr : r < 1024) {z : BitVec 32} (hz : z = BitVec.ofNat 32 N) :
    BitVec.toNat (w := 32) (Scalar.select (IntOp.cmpi .eq z (BitVec.ofNat 32 r)) (BitVec.ofNat 32 k) 0#32) = if N = r then k else 0 := by
  rw [hz]; exact pick_word hN hk hr

/-- The payload of a row at position `r` is, as a word, the entry that the stable decreasing sort puts there. -/
theorem k2_pay1_apply (v : Vec Ideal S1x1024 .f32) (r : Fin 1024) :
    k2_pay1 (F := Ideal) v (ix2 0 r) = BitVec.ofNat 32 (Rank.sorted (fun k : Fin 1024 => (v (ix2 0 k) : EReal)) r) := by
  unfold k2_pay1
  dsimp only
  refine (shapeCast_a_1a_apply _ _ _ _).trans ?_
  have hr := (Rank.sorted (fun k : Fin 1024 => (v (ix2 0 k) : EReal)) r).isLt
  refine multiReductionI_axis0 _ _ _ r _ ?_ (by omega)
  rw [← Rank.sum_rank_eq]
  refine Finset.sum_congr rfl fun k _ => ?_
  have hk := k.isLt
  have hrank : Rank.rank (fun k : Fin 1024 => (v (ix2 0 k) : EReal)) k < 2 ^ 32 :=
    lt_of_le_of_lt (Finset.card_le_univ _) (by rw [Fintype.card_fin]; decide)
  have i0 : ∀ p q : Fin 1024, iota .tc S1024x1024 32 [0] iota_S1024x1024_d0_w32 (ix2 p q) = BitVec.ofNat 32 p.val := fun p q => by
    rw [iota_single_apply]
  have i1 : ∀ p q : Fin 1024, iota .tc S1024x1024 32 [1] iota_S1024x1024_d1_w32 (ix2 p q) = BitVec.ofNat 32 q.val := fun p q => by
    rw [iota_single_apply]
  rw [select_apply]
  rw [cmpi_at, broadcastTo_a1_ab, shapeCast_a_a1_apply, i0, i1, broadcast_apply]
  refine pick_word_of hrank hk r.isLt ?_
  refine multiReductionI_axis0 _ _ _ k (Rank.rank (fun k : Fin 1024 => (v (ix2 0 k) : EReal)) k) ?_ hrank
  · unfold Rank.rank
    rw [Finset.card_filter]
    refine Finset.sum_congr rfl fun q _ => ?_
    rw [extui_apply, ori_at, andi_at, cmpi_at, cmpf_apply, cmpf_apply, broadcastTo_a1_ab, broadcastTo_1b_ab_apply, shapeCast_1a_a1, shapeCast_self, i0, i1]
    exact ahead_word (fun k : Fin 1024 => (v (ix2 0 k) : EReal)) (le_refl _) q k

end Cert.KernelIdeal.TopkPay

end
-- ==== Proof.KernelValue.lean ====
/- The kernel program's result from its arguments: the three launches and the host operations between them put together. -/
module

public import proofs.«01_k».proof.Proof.KernelRun
public import proofs.«01_k».proof.Proof.ConvValue
public import proofs.«01_k».proof.Proof.ScoreValue
public import proofs.«01_k».proof.Proof.TopkPay

@[expose] public section

set_option maxRecDepth 16384

noncomputable section

open scoped BigOperators

namespace Cert.KernelIdeal.KernelValue

open Cert.KernelIdeal Cert.KernelIdeal.Gen Cert.Reads Cert.Spec
open Idealize.ShloMosaic Idealize.ShloMosaic.TcCoe Idealize.ShloMosaic.Tactic Idealize.ShloMosaic.ValueIdx

section Boundaries
variable {F : FTy → Type} [FloatOps F] (m : (ℓ : Loc nD τ sig) → Buf (Elt F) ℓ) (ρ : Dev nD → PrngReg) (c : Dev nD)

/-- The filters as the first launch reads them. -/
theorem at_v0 : V1 m ρ c main_v0 = shapeCast S32x768 (m ((c : Thread nD τ).loc main_arg1)) shapeCasts_S32x3x16x16_S32x768 := by
  show StableHlo.after hostOps0 (W0 m ρ c) (Proc.devRef .tc main_v0) = _
  after_results_simp <;> rfl

/-- The bias as the first launch reads it. -/
theorem at_v1 : V1 m ρ c main_v1 = shapeCast S32x1 (m ((c : Thread nD τ).loc main_arg2)) shapeCasts_S32_S32x1 := by
  show StableHlo.after hostOps0 (W0 m ρ c) (Proc.devRef .tc main_v1) = _
  after_results_simp <;> rfl

/-- The channel values as the second launch reads them. -/
theorem at_v2 : V3 m ρ c main_v2 = Regions.conv (m ((c : Thread nD τ).loc main_arg0))
    (shapeCast S32x768 (m ((c : Thread nD τ).loc main_arg1)) shapeCasts_S32x3x16x16_S32x768)
    (shapeCast S32x1 (m ((c : Thread nD τ).loc main_arg2)) shapeCasts_S32_S32x1) := by
  refine (W3_of m ρ c main_v2 (by decide)).trans ((W2_arr m ρ c 3).trans ((Regions.final0 (V1 m ρ) c).trans ?_))
  rw [at_v0, at_v1]
  exact congrArg (fun x => Regions.conv x _ _) (W1_args m ρ c main_arg0 (by decide))

/-- The scale as the second launch reads it. -/
theorem at_v3 : V3 m ρ c main_v3 = shapeCast S32x1 (m ((c : Thread nD τ).loc main_arg3)) shapeCasts_S32_S32x1 := by
  rw [← W2_args m ρ c main_arg3 (by decide)]
  show StableHlo.after hostOps1 (W2 m ρ c) (Proc.devRef .tc main_v3) = _
  after_results_simp <;> rfl

/-- The shift as the second launch reads it. -/
theorem at_v4 : V3 m ρ c main_v4 = shapeCast S32x1 (m ((c : Thread nD τ).loc main_arg4)) shapeCasts_S32_S32x1 := by
  rw [← W2_args m ρ c main_arg4 (by decide)]
  show StableHlo.after hostOps1 (W2 m ρ c) (Proc.devRef .tc main_v4) = _
  after_results_simp <;> rfl

/-- The score's weights as the second launch reads them. -/
theorem at_v5 : V3 m ρ c main_v5 = shapeCast S1x32 (m ((c : Thread nD τ).loc main_arg5)) shapeCasts_S1x32x1x1_S1x32 := by
  rw [← W2_args m ρ c main_arg5 (by decide)]
  show StableHlo.after hostOps1 (W2 m ρ c) (Proc.devRef .tc main_v5) = _
  after_results_simp <;> rfl

/-- The score's bias as the second launch reads it. -/
theorem at_v6 : V3 m ρ c main_v6 = shapeCast S1x1 (m ((c : Thread nD τ).loc main_arg6)) shapeCasts_S1_S1x1 := by
  rw [← W2_args m ρ c main_arg6 (by decide)]
  show StableHlo.after hostOps1 (W2 m ρ c) (Proc.devRef .tc main_v6) = _
  after_results_simp <;> rfl

/-- The scores as the third launch reads them. -/
theorem at_v8 : V5 m ρ c main_v8 = shapeCast S64x1024 (k1_pay1 (V3 m ρ c main_v2) (V3 m ρ c main_v3) (V3 m ρ c main_v4) (V3 m ρ c main_v5)
    (V3 m ρ c main_v6)) shapeCasts_S1x65536_S64x1024 := by
  rw [← Regions.final1 (V3 m ρ) c, ← W4_arr m ρ c 5]
  show StableHlo.after hostOps2 (W4 m ρ c) (Proc.devRef .tc main_v8) = _
  after_results_simp <;> rfl

/-- The result: the first 819 words of each row that the third launch leaves. -/
theorem at_v10 : W7 m ρ c (Proc.devRef .tc main_v10)
    = extractStridedSlice S64x819 ![0, 0] (Regions.topk (V5 m ρ c main_v8)) slices_S64x1024_S64x819_0_0 := by
  rw [← Regions.final2 (V5 m ρ) c, ← W6_arr m ρ c 1]
  show StableHlo.after hostOps3 (W6 m ρ c) (Proc.devRef .tc main_v10) = _
  after_results_simp <;> rfl

end Boundaries

/-! ## The arguments and the result at the extended reals -/

variable (m : (ℓ : Loc nD τ sig) → Buf (Elt Ideal) ℓ) (ρ : Dev nD → PrngReg) (c : Dev nD)

/-- The image. -/
abbrev x : FVec Ideal S64x3x512x512 .f32 := m ((c : Thread nD τ).loc main_arg0)
/-- The filters. -/
abbrev w1 : FVec Ideal S32x3x16x16 .f32 := m ((c : Thread nD τ).loc main_arg1)
/-- The filters' bias. -/
abbrev b1 : FVec Ideal S32 .f32 := m ((c : Thread nD τ).loc main_arg2)
/-- The scale. -/
abbrev g : FVec Ideal S32 .f32 := m ((c : Thread nD τ).loc main_arg3)
/-- The shift. -/
abbrev s : FVec Ideal S32 .f32 := m ((c : Thread nD τ).loc main_arg4)
/-- The score's weights. -/
abbrev w2 : FVec Ideal S1x32x1x1 .f32 := m ((c : Thread nD τ).loc main_arg5)
/-- The score's bias. -/
abbrev b2 : FVec Ideal S1 .f32 := m ((c : Thread nD τ).loc main_arg6)

/-- The score of pixel `p` of sample `n`, from the arguments. -/
theorem score_apply (n : Fin 64) (p : Fin 32 × Fin 32) :
    V5 m ρ c main_v8 (ix2 n (pixel p)) = score (feature (x m c) (w1 m c) (b1 m c)) (fun o => g m c (ix1 o)) (fun o => s m c (ix1 o))
      (fun o => w2 m c (ix4 0 o 0 0)) (b2 m c (ix1 0)) (n, p) := by
  rw [at_v8]
  refine (shapeCast_apply _ _ _ (ix2 0 (column (n, p))) ?_).trans ?_
  · rw [Shape.rowMajor_val_two, Shape.rowMajor_val_two]
    show 0 * 65536 + (column (n, p)).val = n.val * 1024 + (pixel p).val
    rw [column_val]
    show 0 * 65536 + (1024 * n.val + (pixel p).val) = _
    omega
  refine (ScoreValue.k1_pay1_apply _ _ _ _ _ _).trans ?_
  rw [at_v2, at_v3, at_v4, at_v5, at_v6]
  refine (score_equiv column _ _ _ _ _ (n, p)).symm.trans ?_
  have hy : ∀ (o : Fin 32) (q : Place), Regions.conv (F := Ideal) (x m c) (shapeCast S32x768 (w1 m c) shapeCasts_S32x3x16x16_S32x768)
      (shapeCast S32x1 (b1 m c) shapeCasts_S32_S32x1) (ix2 o (column q)) = feature (x m c) (w1 m c) (b1 m c) o q :=
    fun o q => ConvValue.conv_apply _ _ _ _ _ o q
  have hg : ∀ (v : FVec Ideal S32 .f32) (o : Fin 32), shapeCast S32x1 v shapeCasts_S32_S32x1 (ix2 o 0) = v (ix1 o) :=
    fun v o => shapeCast_a_a1_apply _ _ _ _
  have hw : ∀ o : Fin 32, shapeCast S1x32 (w2 m c) shapeCasts_S1x32x1x1_S1x32 (ix2 0 o) = w2 m c (ix4 0 o 0 0) := fun o =>
    shapeCast_apply _ _ _ _ (by
      rw [Shape.rowMajor_val_four, Shape.rowMajor_val_two]
      show ((0 * 32 + o.val) * 1 + 0) * 1 + 0 = 0 * 32 + o.val
      omega)
  have hb : shapeCast S1x1 (b2 m c) shapeCasts_S1_S1x1 (ix2 0 0) = b2 m c (ix1 0) := shapeCast_a_a1_apply _ _ _ _
  simp only [hy, hg, hw, hb]

/-- The result at place `r` of sample `n`: the pixel that the stable decreasing sort of the sample's scores puts there. -/
theorem result_apply (n : Fin 64) (r : Fin 819) :
    W7 m ρ c (Proc.devRef .tc main_v10) (ix2 n r)
      = BitVec.ofNat 32 (Rank.sorted (fun k : Fin 1024 => score (feature (x m c) (w1 m c) (b1 m c)) (fun o => g m c (ix1 o))
          (fun o => s m c (ix1 o)) (fun o => w2 m c (ix4 0 o 0 0)) (b2 m c (ix1 0)) (n, pixel.symm k)) ⟨r.val, by omega⟩) := by
  rw [at_v10]
  refine (extractStridedSlice_apply _ _ _ _ (ix2 n (⟨r.val, by omega⟩ : Fin 1024)) ?_).trans ?_
  · intro a
    match a with
    | ⟨0, _⟩ => exact (Nat.zero_add _).symm
    | ⟨1, _⟩ => exact (Nat.zero_add _).symm
  show k2_pay1 (Regions.row (V5 m ρ c main_v8) n) (ix2 0 (⟨r.val, by omega⟩ : Fin 1024)) = _
  rw [TopkPay.k2_pay1_apply]
  refine congrArg (fun f : Fin 1024 → EReal => BitVec.ofNat 32 (Rank.sorted f ⟨r.val, by omega⟩)) (funext fun k => ?_)
  refine Eq.trans ?_ (score_apply m ρ c n (pixel.symm k))
  rw [Equiv.apply_symm_apply]
  rfl

end Cert.KernelIdeal.KernelValue

end
-- ==== Proof.RefTop.lean ====
/- The reference's last steps: which word its top-k puts at a position, from the scores it sorts. -/
module

public import proofs.«01_k».proof.Proof.Rank
public import Idealize.ShloMosaic.Lib.Pipeline.Value
public import Idealize.ShloMosaic.Lib.ValueIdx
public import Idealize.ShloMosaic.PureOps.Ideal.Laws

@[expose] public section

set_option maxRecDepth 16384

noncomputable section

namespace Cert.RefTop

open Idealize.ShloMosaic Idealize.ShloMosaic.ValueIdx

/-- Replacing the last coordinate of an index. -/
theorem along_last {a b n : Nat} (p : Fin a) (u : Fin b) (r k : Fin n) :
    Shape.Idx.along (s := ⟨3, ![a, b, n]⟩) (ix3 p u r) 2 k = ix3 p u k := by
  funext x
  match x with
  | ⟨0, _⟩ => rfl
  | ⟨1, _⟩ => rfl
  | ⟨2, _⟩ => rfl

/-- The position words of a top-k along the last axis: the word at position `r` of a row is the entry that the stable
    decreasing sort of the row puts there. -/
theorem topK_word {a b n m : Nat} (x : FVec Ideal ⟨3, ![a, b, n]⟩ .f32) (h : Shape.Slices ⟨3, ![a, b, n]⟩ (fun _ => 0) ⟨3, ![a, b, m]⟩)
    (p : Fin a) (u : Fin b) (r : Fin m) (r' : Fin n) (hr : r'.val = r.val) :
    (Host.topK ⟨3, ![a, b, m]⟩ 2 (FloatOps.cmpfTotal (F := Ideal) (φ := .f32) .gt) x h).2 (ix3 p u r)
      = BitVec.ofNat 32 (Rank.sorted (fun k : Fin n => (x (ix3 p u k) : EReal)) r') := by
  unfold Host.topK
  dsimp only
  refine (extractStridedSlice_apply _ _ h _ (ix3 p u r') ?_).trans ?_
  · intro ax
    match ax with
    | ⟨0, _⟩ => exact (Nat.zero_add _).symm
    | ⟨1, _⟩ => exact (Nat.zero_add _).symm
    | ⟨2, _⟩ => exact hr.trans (Nat.zero_add _).symm
  · unfold Host.sort2
    dsimp only
    rw [dif_pos (by decide : 2 < 3)]
    have hs : (sortedFrom fun k k' : Fin n => FloatOps.cmpfTotal (F := Ideal) (φ := .f32) .gt
          (x (Shape.Idx.along (s := ⟨3, ![a, b, n]⟩) (ix3 p u r') 2 k)) (x (Shape.Idx.along (s := ⟨3, ![a, b, n]⟩) (ix3 p u r') 2 k')) == 1#1)
        = Rank.sorted (fun k : Fin n => (x (ix3 p u k) : EReal)) := by
      unfold Rank.sorted
      refine congrArg sortedFrom (funext fun k => funext fun k' => ?_)
      rw [along_last, along_last]
      show (BitVec.ofBool (decide (x (ix3 p u k') < x (ix3 p u k))) == 1#1) = _
      cases decide (x (ix3 p u k') < x (ix3 p u k)) <;> rfl
    show (if hd : 2 < 3 then iotaInDim ⟨3, ![a, b, n]⟩ 32 ⟨2, hd⟩ (Shape.Idx.along (s := ⟨3, ![a, b, n]⟩) (ix3 p u r') 2
      ((sortedFrom fun k k' : Fin n => FloatOps.cmpfTotal (F := Ideal) (φ := .f32) .gt
          (x (Shape.Idx.along (s := ⟨3, ![a, b, n]⟩) (ix3 p u r') 2 k)) (x (Shape.Idx.along (s := ⟨3, ![a, b, n]⟩) (ix3 p u r') 2 k')) == 1#1) r'))
      else 0#32) = _
    rw [dif_pos (by decide : 2 < 3), hs, along_last]
    rfl

end Cert.RefTop

end
-- ==== Proof.RefValue.lean ====
/- The reference program's arrays at the extended reals, read at an index. -/
module

public import proofs.«01_k».proof.Proof.Gen.ReferenceIdeal.Run
public import proofs.«01_k».proof.Proof.RefTop
public import proofs.«01_k».proof.Proof.Reads
public import proofs.«01_k».proof.Proof.Spec
public import Idealize.ShloMosaic.Lib.IdealHost
public import Idealize.ShloMosaic.Lib.ValueIdxRank6

@[expose] public section

set_option maxRecDepth 16384

noncomputable section

open scoped BigOperators

namespace Cert.ReferenceIdeal.RefValue

open Cert.ReferenceIdeal Cert.ReferenceIdeal.Gen Cert.Reads Cert.Spec
open Idealize.ShloMosaic Idealize.ShloMosaic.TcCoe Idealize.ShloMosaic.ValueIdx

/-- One value per channel, spread over an array whose second axis is the channels. -/
def perChannel (v : FVec Ideal S1x32x1x1 .f32) : FVec Ideal S64x32x32x32 .f32 :=
  broadcastInDim S64x32x32x32 ![0, 1, 2, 3] bcast_S1x32x1x1_S64x32x32x32_0_1_2_3 v

/-- A vector of channel values as an array with unit axes. -/
def asChannels (v : FVec Ideal S32 .f32) : FVec Ideal S1x32x1x1 .f32 := broadcastInDim S1x32x1x1 ![1] bcast_S32_S1x32x1x1_1 v

/-- A constant for each channel. -/
def constant32 (v : FVec Ideal S_ .f32) : FVec Ideal S1x32x1x1 .f32 := broadcastInDim S1x32x1x1 ![] bcast_S_S1x32x1x1 v

/-- The convolution's array. -/
def features (x : FVec Ideal S64x3x512x512 .f32) (w : FVec Ideal S32x3x16x16 .f32) (b : FVec Ideal S32 .f32) : FVec Ideal S64x32x32x32 .f32 :=
  addf (transpose S64x32x32x32 [1, 0, 2, 3] (Host.dotGeneral dot_S32x3x16x16_S64x3x32x16x32x16_S32x64x32x32_123_135_0_024_n_n none w
    (shapeCast _ x shapeCasts_S64x3x512x512_S64x3x32x16x32x16)) transposes_S32x64x32x32_S64x32x32x32_1_0_2_3) (perChannel (asChannels b))

/-- The sums of the channels. -/
def sums (y : FVec Ideal S64x32x32x32 .f32) : FVec Ideal S1x32x1x1 .f32 :=
  asChannels (Host.reduceAdd y (constant S_ .f32 0x00000000#32) reducesTo_S64x32x32x32_S32_d0_2_3 h_S_)

/-- The means of the channels. -/
def means (y : FVec Ideal S64x32x32x32 .f32) : FVec Ideal S1x32x1x1 .f32 := Host.divf (sums y) (constant32 (constant S_ .f32 0x47800000#32))

/-- The number of positions less the correction, which is zero. -/
def divisor : FVec Ideal S_ .f32 := subf (constant S_ .f32 0x47800000#32) (sitofp .f32 (constantI S_ 32 0#32))

/-- The variances of the channels. -/
def variances (y : FVec Ideal S64x32x32x32 .f32) : FVec Ideal S1x32x1x1 .f32 :=
  select (broadcastInDim S1x32x1x1 ![] bcast_S_S1x32x1x1 (cmpf .ogt divisor (constant S_ .f32 0x00000000#32)))
    (Host.divf (sums (mulf (subf y (perChannel (means y))) (subf y (perChannel (means y))))) (constant32 divisor))
    (constant32 (id (constant S_ .f32 0x7FC00000#32)))

/-- The channels normalized, scaled, shifted and clipped. -/
def acts (y : FVec Ideal S64x32x32x32 .f32) (g s : FVec Ideal S32 .f32) : FVec Ideal S64x32x32x32 .f32 :=
  maximumf (addf (mulf (Host.divf (subf y (perChannel (means y)))
      (perChannel (Host.sqrt (addf (variances y) (constant32 (constant S_ .f32 0x3727C5AC#32))))))
    (perChannel (asChannels g))) (perChannel (asChannels s)))
    (broadcastInDim S64x32x32x32 ![] bcast_S_S64x32x32x32 (constant S_ .f32 0x00000000#32))

/-- The scores, a row of 1024 for each sample. -/
def scores (a : FVec Ideal S64x32x32x32 .f32) (w : FVec Ideal S1x32x1x1 .f32) (b : FVec Ideal S1 .f32) : FVec Ideal S64x1x1024 .f32 :=
  shapeCast _ (addf (transpose S64x1x32x32 [1, 0, 2, 3]
      (Host.dotGeneral dot_S1x32_S64x32x32x32_S1x64x32x32_1_1_0_023_n_n none (shapeCast _ w shapeCasts_S1x32x1x1_S1x32) a)
      transposes_S1x64x32x32_S64x1x32x32_1_0_2_3)
    (broadcastInDim S64x1x32x32 ![0, 1, 2, 3] bcast_S1x1x1x1_S64x1x32x32_0_1_2_3 (broadcastInDim S1x1x1x1 ![1] bcast_S1_S1x1x1x1_1 b)))
    shapeCasts_S64x1x32x32_S64x1x1024

/-- The positions kept. -/
def kept (z : FVec Ideal S64x1x1024 .f32) : IVec S64x819 32 :=
  shapeCast _ ((Host.topK S64x1x819 2 (FloatOps.cmpfTotal .gt) z sliceFits_S64x1x1024_S64x1x819).2) shapeCasts_S64x1x819_S64x819

/-- The reference's result, from its arguments, in these steps. -/
theorem result_eq (m : (ℓ : Loc nD τ sig) → Buf (Elt Ideal) ℓ) (c : Dev nD) :
    Value.res_main_v33 m c = kept (scores (acts (features (m ((c.tc : Thread nD τ).loc main_arg0)) (m ((c.tc : Thread nD τ).loc main_arg1))
        (m ((c.tc : Thread nD τ).loc main_arg2))) (m ((c.tc : Thread nD τ).loc main_arg3)) (m ((c.tc : Thread nD τ).loc main_arg4)))
      (m ((c.tc : Thread nD τ).loc main_arg5)) (m ((c.tc : Thread nD τ).loc main_arg6))) := by
  unfold Value.res_main_v33
  rfl

/-- A channel's value spread over the array. -/
theorem perChannel_apply (v : FVec Ideal S1x32x1x1 .f32) (n : Fin 64) (o h w : Fin 32) : perChannel v (ix4 n o h w) = v (ix4 0 o 0 0) := by
  refine broadcastInDim_apply _ _ v _ (ix4 0 o 0 0) fun a => ?_
  match a with
  | ⟨0, _⟩ => rfl
  | ⟨1, _⟩ => rfl
  | ⟨2, _⟩ => rfl
  | ⟨3, _⟩ => rfl

/-- A vector of channel values with unit axes. -/
theorem asChannels_apply (v : FVec Ideal S32 .f32) (o : Fin 32) : asChannels v (ix4 0 o 0 0) = v (ix1 o) := by
  refine broadcastInDim_apply _ _ v _ (ix1 o) fun a => ?_
  match a with
  | ⟨0, _⟩ => rfl

/-- A scalar spread over unit axes and the channels. -/
theorem scalar_apply {α : Type} (v : S_.Idx → α) (i : S1x32x1x1.Idx) : broadcastInDim S1x32x1x1 ![] bcast_S_S1x32x1x1 v i = v ix0 :=
  broadcastInDim_apply _ _ v _ ix0 fun a => a.elim0

/-- The taps as the indices that the convolution sums over. -/
def taps : dot_S32x3x16x16_S64x3x32x16x32x16_S32x64x32x32_123_135_0_024_n_n.contr.Idx ≃ Tap where
  toFun k := (k ⟨0, by decide⟩, k ⟨1, by decide⟩, k ⟨2, by decide⟩)
  invFun t := fun a => match a with | ⟨0, _⟩ => t.1 | ⟨1, _⟩ => t.2.1 | ⟨2, _⟩ => t.2.2
  left_inv k := by
    funext a
    match a with
    | ⟨0, _⟩ => rfl
    | ⟨1, _⟩ => rfl
    | ⟨2, _⟩ => rfl
  right_inv _ := rfl

/-- The image cut into patches: at sample `n`, colour `c`, patch `(h, w)` and offset `(i, j)` it is the image there. -/
theorem image_apply (x : FVec Ideal S64x3x512x512 .f32) (n : Fin 64) (c : Fin 3) (h : Fin 32) (i : Fin 16) (w : Fin 32) (j : Fin 16) :
    shapeCast S64x3x32x16x32x16 x shapeCasts_S64x3x512x512_S64x3x32x16x32x16 (ix6 n c h i w j) = x (ix4 n c (at16 h i) (at16 w j)) := by
  refine shapeCast_apply _ _ _ _ ?_
  rw [Shape.rowMajor_val_four, Shape.rowMajor_val_six]
  show ((n.val * 3 + c.val) * 512 + (16 * h.val + i.val)) * 512 + (16 * w.val + j.val)
    = ((((n.val * 3 + c.val) * 32 + h.val) * 16 + i.val) * 32 + w.val) * 16 + j.val
  omega

/-- The convolution's array at a position. -/
theorem features_apply (x : FVec Ideal S64x3x512x512 .f32) (w : FVec Ideal S32x3x16x16 .f32) (b : FVec Ideal S32 .f32) (o : Fin 32) (q : Place) :
    features x w b (ix4 q.1 o q.2.1 q.2.2) = feature x w b o q := by
  unfold features feature
  rw [addf_apply, perChannel_apply, asChannels_apply]
  refine congrArg (· + b (ix1 o)) ?_
  refine (transpose_apply _ _ _ _ (ix4 o q.1 q.2.1 q.2.2) ?_).trans ?_
  · intro a
    match a with
    | ⟨0, _⟩ => rfl
    | ⟨1, _⟩ => rfl
    | ⟨2, _⟩ => rfl
    | ⟨3, _⟩ => rfl
  simp only [Host.dotGeneral]
  rw [Ideal.dotGeneral_apply, ← Equiv.sum_comp taps.symm]
  refine Finset.sum_congr rfl fun t _ => congrArg₂ (· * ·) (congrArg w ?_) ?_
  · funext a
    match a with
    | ⟨0, _⟩ => rfl
    | ⟨1, _⟩ => rfl
    | ⟨2, _⟩ => rfl
    | ⟨3, _⟩ => rfl
  · refine Eq.trans (congrArg _ ?_) (image_apply x q.1 t.1 q.2.1 t.2.1 q.2.2 t.2.2)
    funext a
    match a with
    | ⟨0, _⟩ => rfl
    | ⟨1, _⟩ => rfl
    | ⟨2, _⟩ => rfl
    | ⟨3, _⟩ => rfl
    | ⟨4, _⟩ => rfl
    | ⟨5, _⟩ => rfl

/-- The sum of a channel is the sum over all positions. -/
theorem sums_apply (y : FVec Ideal S64x32x32x32 .f32) (o : Fin 32) : sums y (ix4 0 o 0 0) = ∑ q : Place, y (ix4 q.1 o q.2.1 q.2.2) := by
  unfold sums
  rw [asChannels_apply, hostReduceAdd_apply]
  unfold Ideal.hostReduceAdd
  rw [constant_apply, Ideal.ofBits_zero_f32, zero_add]
  refine (Finset.sum_bij' (fun q (_ : q ∈ (Finset.univ : Finset Place)) => (ix4 q.1 o q.2.1 q.2.2 : S64x32x32x32.Idx))
    (fun i _ => ((i 0, i 2, i 3) : Place)) ?_ ?_ ?_ ?_ ?_).symm
  · intro q _
    rw [Finset.mem_filter]
    refine ⟨Finset.mem_univ _, funext fun a => ?_⟩
    match a with
    | ⟨0, _⟩ => rfl
  · intro i _; exact Finset.mem_univ _
  · intro q _; rfl
  · intro i hi
    have h1 : i 1 = o := congrFun (Finset.mem_filter.mp hi).2 0
    rw [← h1]
    exact (eq_ix4 i).symm
  · intro q _; rfl

/-- The mean of a channel. -/
theorem means_apply (y : FVec Ideal S64x32x32x32 .f32) (o : Fin 32) :
    means y (ix4 0 o 0 0) = mean (fun q : Place => (y (ix4 q.1 o q.2.1 q.2.2) : EReal)) := by
  unfold means mean
  rw [hostDivf_apply, sums_apply]
  exact congrArg _ (scalar_apply _ _)

/-- The divisor is the number of positions. -/
theorem divisor_apply : divisor ix0 = count := by
  unfold divisor
  rw [subf_apply, sitofp_apply]
  show count - (((0#32 : BitVec 32).toInt : ℝ) : EReal) = count
  simp

/-- The variance of a channel: the choice takes the quotient, the divisor being positive. -/
theorem variances_apply (y : FVec Ideal S64x32x32x32 .f32) (o : Fin 32) :
    variances y (ix4 0 o 0 0) = variance (fun q : Place => (y (ix4 q.1 o q.2.1 q.2.2) : EReal)) := by
  unfold variances variance
  rw [select_apply, scalar_apply, cmpf_apply, divisor_apply, constant_apply, Ideal.ofBits_zero_f32]
  have hc : FloatOps.cmpf (F := Ideal) (φ := .f32) .ogt count 0 = 1#1 := by
    show BitVec.ofBool (decide (0 < count)) = 1#1
    rw [decide_eq_true count_pos]; rfl
  rw [hc, select_one, hostDivf_apply, sums_apply]
  have hd : constant32 divisor (ix4 0 o 0 0) = count := (scalar_apply _ _).trans divisor_apply
  rw [hd]
  refine congrArg (fun z : EReal => Ideal.div z count) (Finset.sum_congr rfl fun q _ => ?_)
  rw [mulf_apply, subf_apply, perChannel_apply, means_apply]

/-- An activation at a position. -/
theorem acts_apply (y : FVec Ideal S64x32x32x32 .f32) (g s : FVec Ideal S32 .f32) (o : Fin 32) (q : Place) :
    acts y g s (ix4 q.1 o q.2.1 q.2.2) = act (fun q : Place => (y (ix4 q.1 o q.2.1 q.2.2) : EReal)) (g (ix1 o)) (s (ix1 o)) q := by
  unfold acts act
  rw [maximumf_apply, addf_apply, mulf_apply, hostDivf_apply, subf_apply, perChannel_apply, perChannel_apply, perChannel_apply, perChannel_apply,
    asChannels_apply, asChannels_apply, means_apply]
  have hz : broadcastInDim S64x32x32x32 ![] bcast_S_S64x32x32x32 (constant (F := Ideal) S_ .f32 0x00000000#32) (ix4 q.1 o q.2.1 q.2.2) = (0 : EReal) :=
    (broadcastInDim_apply _ _ _ _ ix0 fun a => a.elim0).trans Ideal.ofBits_zero_f32
  have hv : Host.sqrt (addf (variances y) (constant32 (constant S_ .f32 0x3727C5AC#32))) (ix4 0 o 0 0)
      = Ideal.sqrt (variance (fun q : Place => (y (ix4 q.1 o q.2.1 q.2.2) : EReal)) + small) := by
    show Ideal.sqrt (variances y (ix4 0 o 0 0) + constant32 (constant S_ .f32 0x3727C5AC#32) (ix4 0 o 0 0)) = _
    rw [variances_apply]
    exact congrArg (fun z : EReal => Ideal.sqrt (_ + z)) (scalar_apply _ _)
  rw [hz, hv]

/-- The score of a position. -/
theorem scores_apply (y : FVec Ideal S64x32x32x32 .f32) (g s : FVec Ideal S32 .f32) (w : FVec Ideal S1x32x1x1 .f32) (b : FVec Ideal S1 .f32)
    (q : Place) :
    scores (acts y g s) w b (ix3 q.1 0 (pixel q.2))
      = score (fun o (q : Place) => (y (ix4 q.1 o q.2.1 q.2.2) : EReal)) (fun o => g (ix1 o)) (fun o => s (ix1 o)) (fun o => w (ix4 0 o 0 0))
          (b (ix1 0)) q := by
  unfold scores score
  refine (shapeCast_apply _ _ _ (ix4 q.1 0 q.2.1 q.2.2) ?_).trans ?_
  · rw [Shape.rowMajor_val_four, Shape.rowMajor_val_three]
    show ((q.1.val * 1 + 0) * 32 + q.2.1.val) * 32 + q.2.2.val = (q.1.val * 1 + 0) * 1024 + (pixel q.2).val
    rw [pixel_val]; omega
  rw [addf_apply]
  refine congrArg₂ (· + ·) ?_ ?_
  · refine (transpose_apply _ _ _ _ (ix4 0 q.1 q.2.1 q.2.2) ?_).trans ?_
    · intro a
      match a with
      | ⟨0, _⟩ => rfl
      | ⟨1, _⟩ => rfl
      | ⟨2, _⟩ => rfl
      | ⟨3, _⟩ => rfl
    simp only [Host.dotGeneral]
    rw [Ideal.dotGeneral_apply, ← Equiv.sum_comp (contrEquiv1 dot_S1x32_S64x32x32x32_S1x64x32x32_1_1_0_023_n_n 32 rfl rfl).symm]
    refine Finset.sum_congr rfl fun o _ => congrArg₂ (· * ·) ?_ ?_
    · refine Eq.trans (congrArg _ (?_ : _ = ix2 0 o)) (shapeCast_apply w _ _ (ix4 0 o 0 0) ?_)
      · funext a
        match a with
        | ⟨0, _⟩ => rfl
        | ⟨1, _⟩ => rfl
      · rw [Shape.rowMajor_val_four, Shape.rowMajor_val_two]
        show ((0 * 32 + o.val) * 1 + 0) * 1 + 0 = 0 * 32 + o.val
        omega
    · refine Eq.trans (congrArg _ (?_ : _ = ix4 q.1 o q.2.1 q.2.2)) (acts_apply y g s o q)
      funext a
      match a with
      | ⟨0, _⟩ => rfl
      | ⟨1, _⟩ => rfl
      | ⟨2, _⟩ => rfl
      | ⟨3, _⟩ => rfl
  · refine (broadcastInDim_apply _ _ _ _ (ix4 0 0 0 0) ?_).trans (broadcastInDim_apply _ _ _ _ (ix1 0) ?_)
    · intro a
      match a with
      | ⟨0, _⟩ => rfl
      | ⟨1, _⟩ => rfl
      | ⟨2, _⟩ => rfl
      | ⟨3, _⟩ => rfl
    · intro a
      match a with
      | ⟨0, _⟩ => rfl

/-- A position kept: the word at place `r` of sample `n` is the pixel that the stable decreasing sort of the scores puts there. -/
theorem kept_apply (z : FVec Ideal S64x1x1024 .f32) (n : Fin 64) (r : Fin 819) :
    kept z (ix2 n r) = BitVec.ofNat 32 (Rank.sorted (fun k : Fin 1024 => (z (ix3 n 0 k) : EReal)) ⟨r.val, by omega⟩) := by
  unfold kept
  refine (shapeCast_apply _ _ _ (ix3 n 0 r) ?_).trans (RefTop.topK_word _ _ n 0 r _ rfl)
  rw [Shape.rowMajor_val_three, Shape.rowMajor_val_two]
  show (n.val * 1 + 0) * 819 + r.val = n.val * 819 + r.val
  omega

end Cert.ReferenceIdeal.RefValue

end
-- ==== Proof.Equation.lean ====
/- The two programs' results are equal when their arguments are. -/
module

public import proofs.«01_k».proof.Proof.KernelValue
public import proofs.«01_k».proof.Proof.RefValue

@[expose] public section

set_option maxRecDepth 16384

noncomputable section

namespace Cert.Equation

open Cert.Spec
open Idealize.ShloMosaic Idealize.ShloMosaic.TcCoe Idealize.ShloMosaic.ValueIdx

/-- The reference's result from its arguments, at place `r` of sample `n`: the pixel that the stable decreasing sort of the
    sample's scores puts there. -/
theorem reference_apply (x : FVec Ideal ⟨4, ![64, 3, 512, 512]⟩ .f32) (w1 : FVec Ideal ⟨4, ![32, 3, 16, 16]⟩ .f32)
    (b1 g s : FVec Ideal ⟨1, ![32]⟩ .f32) (w2 : FVec Ideal ⟨4, ![1, 32, 1, 1]⟩ .f32) (b2 : FVec Ideal ⟨1, ![1]⟩ .f32) (n : Fin 64) (r : Fin 819) :
    ReferenceIdeal.RefValue.kept (ReferenceIdeal.RefValue.scores
        (ReferenceIdeal.RefValue.acts (ReferenceIdeal.RefValue.features x w1 b1) g s) w2 b2) (ix2 n r)
      = BitVec.ofNat 32 (Rank.sorted (fun k : Fin 1024 => score (feature x w1 b1) (fun o => g (ix1 o)) (fun o => s (ix1 o))
          (fun o => w2 (ix4 0 o 0 0)) (b2 (ix1 0)) (n, pixel.symm k)) ⟨r.val, by omega⟩) := by
  rw [ReferenceIdeal.RefValue.kept_apply]
  refine congrArg (fun f : Fin 1024 → EReal => BitVec.ofNat 32 (Rank.sorted f ⟨r.val, by omega⟩)) (funext fun k => ?_)
  have h := ReferenceIdeal.RefValue.scores_apply (ReferenceIdeal.RefValue.features x w1 b1) g s w2 b2 (n, pixel.symm k)
  have hk : pixel ((n, pixel.symm k) : Place).2 = k := Equiv.apply_symm_apply pixel k
  rw [hk] at h
  refine h.trans ?_
  simp only [ReferenceIdeal.RefValue.features_apply]

/-- The reference's result is the kernel's. -/
theorem result_eq (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = KernelIdeal.KernelValue.x m c)
    (h1 : m' ((c.tc : Thread ReferenceIdeal.nD ReferenceIdeal.τ).loc ReferenceIdeal.main_arg1) = KernelIdeal.KernelValue.w1 m c)
    (h2 : m' ((c.tc : Thread ReferenceIdeal.nD ReferenceIdeal.τ).loc ReferenceIdeal.main_arg2) = KernelIdeal.KernelValue.b1 m c)
    (h3 : m' ((c.tc : Thread ReferenceIdeal.nD ReferenceIdeal.τ).loc ReferenceIdeal.main_arg3) = KernelIdeal.KernelValue.g m c)
    (h4 : m' ((c.tc : Thread ReferenceIdeal.nD ReferenceIdeal.τ).loc ReferenceIdeal.main_arg4) = KernelIdeal.KernelValue.s m c)
    (h5 : m' ((c.tc : Thread ReferenceIdeal.nD ReferenceIdeal.τ).loc ReferenceIdeal.main_arg5) = KernelIdeal.KernelValue.w2 m c)
    (h6 : m' ((c.tc : Thread ReferenceIdeal.nD ReferenceIdeal.τ).loc ReferenceIdeal.main_arg6) = KernelIdeal.KernelValue.b2 m c) :
    (ReferenceIdeal.Value.res_main_v33 m' c : IVec ⟨2, ![64, 819]⟩ 32)
      = KernelIdeal.Gen.W7 m ρ c (Proc.devRef .tc KernelIdeal.main_v10) := by
  rw [ReferenceIdeal.RefValue.result_eq, h0, h1, h2, h3, h4, h5, h6]
  funext i
  obtain ⟨n, r, rfl⟩ : ∃ (n : Fin 64) (r : Fin 819), i = ix2 n r := ⟨i 0, i 1, eq_ix2 i⟩
  exact (reference_apply _ _ _ _ _ _ _ n r).trans (KernelIdeal.KernelValue.result_apply m ρ c n r).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel program terminates, leaves its arguments and ends with every counter at zero. -/
theorem kernel_frame : quiescent_Kernel := fun m ρ _ => Cert.Kernel.Gen.frame m ρ

/-- So does its idealization. -/
theorem kernelIdeal_frame : quiescent_KernelIdeal := fun m ρ _ => Cert.KernelIdeal.Gen.frame m ρ

/-- So does the reference, which has no counters. -/
theorem referenceIdeal_frame : quiescent_ReferenceIdeal := fun m ρ _ =>
  (θ_run _ _ _).mono (fun r h => ⟨fun c => (h c).2, sem_eq_zero_of_no_sems rfl r.2⟩) (Cert.ReferenceIdeal.Value.run m ρ)

/-- From equal arguments the idealized kernel and the reference end with equal results. -/
theorem equal_results : algebraic_KernelIdeal_ReferenceIdeal := fun m ρ m' ρ' _ hargs =>
  ⟨fun c => Cert.KernelIdeal.Gen.W7 m ρ c (Proc.devRef .tc Cert.KernelIdeal.main_v10), Cert.KernelIdeal.Named.run m ρ,
    (θ_run _ _ _).mono (fun _ h c => by
      obtain ⟨h0, h1, h2, h3, h4, h5, h6⟩ := hargs c
      exact ⟨(h c).1.trans (Cert.Equation.result_eq m ρ m' c h0 h1 h2 h3 h4 h5 h6), (h c).2⟩) (Cert.ReferenceIdeal.Value.run m' ρ')⟩

/-- Every claim of the certificate. -/
theorem claim : Cert.Claim := ⟨Cert.Kernel.Gen.facts, Cert.KernelIdeal.Gen.facts, Cert.ReferenceIdeal.Gen.facts,
  kernel_frame, kernelIdeal_frame, referenceIdeal_frame, trivial, equal_results⟩

end Cert.Proof

end
